-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S16384x12x28 : Shape := ⟨3, ![16384, 12, 28]⟩
abbrev S200x64 : Shape := ⟨2, ![200, 64]⟩
abbrev S400x32 : Shape := ⟨2, ![400, 32]⟩
abbrev S80x32 : Shape := ⟨2, ![80, 32]⟩
abbrev S150x32 : Shape := ⟨2, ![150, 32]⟩
abbrev S150x16 : Shape := ⟨2, ![150, 16]⟩
abbrev S20x8 : Shape := ⟨2, ![20, 8]⟩
abbrev S299x384 : Shape := ⟨2, ![299, 384]⟩
abbrev S384 : Shape := ⟨1, ![384]⟩
abbrev S16384x12x9 : Shape := ⟨3, ![16384, 12, 9]⟩
abbrev S_ : Shape := ⟨0, ![]⟩

class Facts : Prop where
  slices_S16384x12x28_S16384x12x9_0_0_0 : S16384x12x28.Slices ![0, 0, 0] S16384x12x9
  bcast_S_S16384x12x9 : S_.BroadcastsInDim S16384x12x9 (![] : Fin 0 → Fin S16384x12x9.rank)
  reducesTo_S16384x12x9_S_d0_1_2 : S16384x12x9.ReducesTo [0, 1, 2] S_
  h_S_ : 0 < S_.numel
  bcast_S_S384 : S_.BroadcastsInDim S384 (![] : Fin 0 → Fin S384.rank)
  reducesTo_S384_S_d0 : S384.ReducesTo [0] S_

variable [Facts]

def fn_part1 {F : FTy → Type} [FloatOps F] (main_arg10 : FVec F S384 .f32) (main_v14 : IVec S_ 1) (main_v16 : IVec S384 1) (main_c_4 : IVec S_ 1) : IVec S_ 1 :=
  let main_v17 : IVec S_ 1 := (fun x v => Host.reduce IntOp.andi x v reducesTo_S384_S_d0 h_S_) main_v16 main_c_4
  let main_v18 : IVec S_ 1 := andi main_v14 main_v17
  let main_cst_5 : FVec F S_ .f32 := constant S_ .f32 0x00000000#32
  let main_v19 : FVec F S384 .f32 := broadcastInDim S384 ![] bcast_S_S384 main_cst_5
  let main_v20 : IVec S384 1 := cmpf .oeq main_arg10 main_v19
  let main_c_6 : IVec S_ 1 := constantI S_ 1 1#1
  let main_v21 : IVec S_ 1 := (fun x v => Host.reduce IntOp.andi x v reducesTo_S384_S_d0 h_S_) main_v20 main_c_6
  let main_v22 : IVec S_ 1 := andi main_v18 main_v21
  main_v22

def fn {F : FTy → Type} [FloatOps F] (main_arg0 : FVec F S16384x12x28 .f32) (main_arg1 : FVec F S200x64 .f32) (main_arg2 : FVec F S400x32 .f32) (main_arg3 : FVec F S80x32 .f32) (main_arg4 : FVec F S150x32 .f32) (main_arg5 : FVec F S150x16 .f32) (main_arg6 : FVec F S20x8 .f32) (main_arg7 : FVec F S299x384 .f32) (main_arg8 : FVec F S384 .f32) (main_arg9 : FVec F S384 .f32) (main_arg10 : FVec F S384 .f32) : IVec S_ 1 :=
  let main_v0 : FVec F S16384x12x9 .f32 := (extractStridedSlice S16384x12x9 ![0, 0, 0] · slices_S16384x12x28_S16384x12x9_0_0_0) main_arg0
  let main_v1 : IVec S16384x12x9 32 := fptosi 32 main_v0
  let main_c : IVec S_ 32 := constantI S_ 32 0#32
  let main_v2 : IVec S16384x12x9 32 := broadcastInDim S16384x12x9 ![] bcast_S_S16384x12x9 main_c
  let main_v3 : IVec S16384x12x9 1 := cmpi .sge main_v1 main_v2
  let main_c_0 : IVec S_ 32 := constantI S_ 32 20#32
  let main_v4 : IVec S16384x12x9 32 := broadcastInDim S16384x12x9 ![] bcast_S_S16384x12x9 main_c_0
  let main_v5 : IVec S16384x12x9 1 := cmpi .slt main_v1 main_v4
  let main_v6 : IVec S16384x12x9 1 := andi main_v3 main_v5
  let main_v7 : FVec F S16384x12x9 .f32 := sitofp .f32 main_v1
  let main_v8 : IVec S16384x12x9 1 := cmpf .oeq main_v7 main_v0
  let main_v9 : IVec S16384x12x9 1 := andi main_v6 main_v8
  let main_c_1 : IVec S_ 1 := constantI S_ 1 1#1
  let main_v10 : IVec S_ 1 := (fun x v => Host.reduce IntOp.andi x v reducesTo_S16384x12x9_S_d0_1_2 h_S_) main_v9 main_c_1
  let main_cst : FVec F S_ .f32 := constant S_ .f32 0x00000000#32
  let main_v11 : FVec F S384 .f32 := broadcastInDim S384 ![] bcast_S_S384 main_cst
  let main_v12 : IVec S384 1 := cmpf .oeq main_arg8 main_v11
  let main_c_2 : IVec S_ 1 := constantI S_ 1 1#1
  let main_v13 : IVec S_ 1 := (fun x v => Host.reduce IntOp.andi x v reducesTo_S384_S_d0 h_S_) main_v12 main_c_2
  let main_v14 : IVec S_ 1 := andi main_v10 main_v13
  let main_cst_3 : FVec F S_ .f32 := constant S_ .f32 0x3F800000#32
  let main_v15 : FVec F S384 .f32 := broadcastInDim S384 ![] bcast_S_S384 main_cst_3
  let main_v16 : IVec S384 1 := cmpf .oeq main_arg9 main_v15
  let main_c_4 : IVec S_ 1 := constantI S_ 1 1#1
  fn_part1 (F := F) main_arg10 main_v14 main_v16 main_c_4
-- ==== Kernel.lean ====
abbrev S16384x12x28 : Shape := ⟨3, ![16384, 12, 28]⟩
abbrev S200x64 : Shape := ⟨2, ![200, 64]⟩
abbrev S400x32 : Shape := ⟨2, ![400, 32]⟩
abbrev S80x32 : Shape := ⟨2, ![80, 32]⟩
abbrev S150x32 : Shape := ⟨2, ![150, 32]⟩
abbrev S150x16 : Shape := ⟨2, ![150, 16]⟩
abbrev S20x8 : Shape := ⟨2, ![20, 8]⟩
abbrev S299x384 : Shape := ⟨2, ![299, 384]⟩
abbrev S384 : Shape := ⟨1, ![384]⟩
abbrev S12x28x16384 : Shape := ⟨3, ![12, 28, 16384]⟩
abbrev S64x200 : Shape := ⟨2, ![64, 200]⟩
abbrev S32x400 : Shape := ⟨2, ![32, 400]⟩
abbrev S32x80 : Shape := ⟨2, ![32, 80]⟩
abbrev S32x150 : Shape := ⟨2, ![32, 150]⟩
abbrev S16x150 : Shape := ⟨2, ![16, 150]⟩
abbrev S8x20 : Shape := ⟨2, ![8, 20]⟩
abbrev S12x16384x384 : Shape := ⟨3, ![12, 16384, 384]⟩
abbrev S16384x12x384 : Shape := ⟨3, ![16384, 12, 384]⟩
abbrev S12x28x512 : Shape := ⟨3, ![12, 28, 512]⟩
abbrev S12x512x384 : Shape := ⟨3, ![12, 512, 384]⟩
abbrev S199x384 : Shape := ⟨2, ![199, 384]⟩
abbrev S64x20 : Shape := ⟨2, ![64, 20]⟩
abbrev S64x384 : Shape := ⟨2, ![64, 384]⟩
abbrev S20x384 : Shape := ⟨2, ![20, 384]⟩
abbrev S32x20 : Shape := ⟨2, ![32, 20]⟩
abbrev S32x384 : Shape := ⟨2, ![32, 384]⟩
abbrev S16x20 : Shape := ⟨2, ![16, 20]⟩
abbrev S16x384 : Shape := ⟨2, ![16, 384]⟩
abbrev S8x384 : Shape := ⟨2, ![8, 384]⟩
abbrev S19x384 : Shape := ⟨2, ![19, 384]⟩
abbrev S1x199 : Shape := ⟨2, ![1, 199]⟩
abbrev S28x1 : Shape := ⟨2, ![28, 1]⟩
abbrev S28x199 : Shape := ⟨2, ![28, 199]⟩
abbrev S1x28x512 : Shape := ⟨3, ![1, 28, 512]⟩
abbrev S28x512 : Shape := ⟨2, ![28, 512]⟩
abbrev S512x199 : Shape := ⟨2, ![512, 199]⟩
abbrev S512x384 : Shape := ⟨2, ![512, 384]⟩
abbrev S512 : Shape := ⟨1, ![512]⟩
abbrev S512x1 : Shape := ⟨2, ![512, 1]⟩
abbrev S1x512x384 : Shape := ⟨3, ![1, 512, 384]⟩

abbrev nBuf : Space → Nat
  | .hbm => 20
  | .vmem => 12
  | .smem => 0
  | _ => 0

abbrev bufTy : (tb : Table) → Fin (tcTables nBuf tb) → BufTy
  | .hbm, ⟨0, _⟩ => ⟨S16384x12x28, .f32⟩
  | .hbm, ⟨1, _⟩ => ⟨S200x64, .f32⟩
  | .hbm, ⟨2, _⟩ => ⟨S400x32, .f32⟩
  | .hbm, ⟨3, _⟩ => ⟨S80x32, .f32⟩
  | .hbm, ⟨4, _⟩ => ⟨S150x32, .f32⟩
  | .hbm, ⟨5, _⟩ => ⟨S150x16, .f32⟩
  | .hbm, ⟨6, _⟩ => ⟨S20x8, .f32⟩
  | .hbm, ⟨7, _⟩ => ⟨S299x384, .f32⟩
  | .hbm, ⟨8, _⟩ => ⟨S384, .f32⟩
  | .hbm, ⟨9, _⟩ => ⟨S384, .f32⟩
  | .hbm, ⟨10, _⟩ => ⟨S384, .f32⟩
  | .hbm, ⟨11, _⟩ => ⟨S12x28x16384, .f32⟩
  | .hbm, ⟨12, _⟩ => ⟨S64x200, .f32⟩
  | .hbm, ⟨13, _⟩ => ⟨S32x400, .f32⟩
  | .hbm, ⟨14, _⟩ => ⟨S32x80, .f32⟩
  | .hbm, ⟨15, _⟩ => ⟨S32x150, .f32⟩
  | .hbm, ⟨16, _⟩ => ⟨S16x150, .f32⟩
  | .hbm, ⟨17, _⟩ => ⟨S8x20, .f32⟩
  | .hbm, ⟨18, _⟩ => ⟨S12x16384x384, .f32⟩
  | .hbm, ⟨19, _⟩ => ⟨S16384x12x384, .f32⟩
  | .local _ .vmem, ⟨0, _⟩ => ⟨S12x28x512, .f32⟩
  | .local _ .vmem, ⟨1, _⟩ => ⟨S12x28x512, .f32⟩
  | .local _ .vmem, ⟨2, _⟩ => ⟨S64x200, .f32⟩
  | .local _ .vmem, ⟨3, _⟩ => ⟨S32x400, .f32⟩
  | .local _ .vmem, ⟨4, _⟩ => ⟨S32x80, .f32⟩
  | .local _ .vmem, ⟨5, _⟩ => ⟨S32x150, .f32⟩
  | .local _ .vmem, ⟨6, _⟩ => ⟨S16x150, .f32⟩
  | .local _ .vmem, ⟨7, _⟩ => ⟨S8x20, .f32⟩
  | .local _ .vmem, ⟨8, _⟩ => ⟨S299x384, .f32⟩
  | .local _ .vmem, ⟨9, _⟩ => ⟨S12x512x384, .f32⟩
  | .local _ .vmem, ⟨10, _⟩ => ⟨S12x512x384, .f32⟩
  | .local _ .vmem, ⟨11, _⟩ => ⟨S199x384, .f32⟩
  | _, _ => ⟨S16384x12x28, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_v0 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S12x28x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x200 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x400 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x80 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x150 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x150 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x20 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S299x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S12x512x384 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S16384x12x28 : Shape := ⟨3, ![16384, 12, 28]⟩
abbrev S200x64 : Shape := ⟨2, ![200, 64]⟩
abbrev S400x32 : Shape := ⟨2, ![400, 32]⟩
abbrev S80x32 : Shape := ⟨2, ![80, 32]⟩
abbrev S150x32 : Shape := ⟨2, ![150, 32]⟩
abbrev S150x16 : Shape := ⟨2, ![150, 16]⟩
abbrev S20x8 : Shape := ⟨2, ![20, 8]⟩
abbrev S299x384 : Shape := ⟨2, ![299, 384]⟩
abbrev S384 : Shape := ⟨1, ![384]⟩
abbrev S16384x12x9 : Shape := ⟨3, ![16384, 12, 9]⟩
abbrev S_ : Shape := ⟨0, ![]⟩
abbrev S16384x12x1 : Shape := ⟨3, ![16384, 12, 1]⟩
abbrev S16384x12 : Shape := ⟨2, ![16384, 12]⟩
abbrev S1 : Shape := ⟨1, ![1]⟩
abbrev S1x1x1 : Shape := ⟨3, ![1, 1, 1]⟩
abbrev S16384x12x64 : Shape := ⟨3, ![16384, 12, 64]⟩
abbrev S16384x12x32 : Shape := ⟨3, ![16384, 12, 32]⟩
abbrev S16384x12x16 : Shape := ⟨3, ![16384, 12, 16]⟩
abbrev S16384x12x8 : Shape := ⟨3, ![16384, 12, 8]⟩
abbrev S16384x12x280 : Shape := ⟨3, ![16384, 12, 280]⟩
abbrev S16384x12x19 : Shape := ⟨3, ![16384, 12, 19]⟩
abbrev S16384x12x299 : Shape := ⟨3, ![16384, 12, 299]⟩
abbrev S16384x12x384 : Shape := ⟨3, ![16384, 12, 384]⟩
abbrev S1x1x384 : Shape := ⟨3, ![1, 1, 384]⟩

abbrev nBuf : Space → Nat
  | .hbm => 278
  | .vmem => 0
  | .smem => 0
  | _ => 0

abbrev hbmTy0_0 (i : Nat) : BufTy := match i % 128 with
  | 0 => ⟨S16384x12x28, .f32⟩
  | 1 => ⟨S200x64, .f32⟩
  | 2 => ⟨S400x32, .f32⟩
  | 3 => ⟨S80x32, .f32⟩
  | 4 => ⟨S150x32, .f32⟩
  | 5 => ⟨S150x16, .f32⟩
  | 6 => ⟨S20x8, .f32⟩
  | 7 => ⟨S299x384, .f32⟩
  | 8 => ⟨S384, .f32⟩
  | 9 => ⟨S384, .f32⟩
  | 10 => ⟨S384, .f32⟩
  | 11 => ⟨S16384x12x9, .f32⟩
  | 12 => ⟨S16384x12x9, .i32⟩
  | 13 => ⟨S_, .i32⟩
  | 14 => ⟨S_, .i32⟩
  | 15 => ⟨S16384x12x9, .i32⟩
  | 16 => ⟨S16384x12x9, .i32⟩
  | 17 => ⟨S16384x12x1, .i32⟩
  | 18 => ⟨S16384x12, .i32⟩
  | 19 => ⟨S_, .i32⟩
  | 20 => ⟨S16384x12, .i32⟩
  | 21 => ⟨S16384x12, .i1⟩
  | 22 => ⟨S_, .i32⟩
  | 23 => ⟨S16384x12, .i32⟩
  | 24 => ⟨S16384x12, .i32⟩
  | 25 => ⟨S16384x12, .i32⟩
  | 26 => ⟨S16384x12x1, .i32⟩
  | 27 => ⟨S1, .i32⟩
  | 28 => ⟨S_, .i32⟩
  | 29 => ⟨S16384x12x1, .i32⟩
  | 30 => ⟨S16384x12x1, .i1⟩
  | 31 => ⟨S1x1x1, .i32⟩
  | 32 => ⟨S16384x12x1, .i32⟩
  | 33 => ⟨S16384x12x1, .i1⟩
  | 34 => ⟨S16384x12x1, .i1⟩
  | 35 => ⟨S_, .i1⟩
  | 36 => ⟨S16384x12, .i1⟩
  | 37 => ⟨S16384x12x64, .f32⟩
  | 38 => ⟨S16384x12x64, .i1⟩
  | 39 => ⟨S_, .f32⟩
  | 40 => ⟨S16384x12x64, .f32⟩
  | 41 => ⟨S16384x12x64, .f32⟩
  | 42 => ⟨S16384x12x1, .i32⟩
  | 43 => ⟨S16384x12, .i32⟩
  | 44 => ⟨S_, .i32⟩
  | 45 => ⟨S16384x12, .i32⟩
  | 46 => ⟨S16384x12, .i1⟩
  | 47 => ⟨S_, .i32⟩
  | 48 => ⟨S16384x12, .i32⟩
  | 49 => ⟨S16384x12, .i32⟩
  | 50 => ⟨S16384x12, .i32⟩
  | 51 => ⟨S16384x12x1, .i32⟩
  | 52 => ⟨S1, .i32⟩
  | 53 => ⟨S_, .i32⟩
  | 54 => ⟨S16384x12x1, .i32⟩
  | 55 => ⟨S16384x12x1, .i1⟩
  | 56 => ⟨S1x1x1, .i32⟩
  | 57 => ⟨S16384x12x1, .i32⟩
  | 58 => ⟨S16384x12x1, .i1⟩
  | 59 => ⟨S16384x12x1, .i1⟩
  | 60 => ⟨S_, .i1⟩
  | 61 => ⟨S16384x12, .i1⟩
  | 62 => ⟨S16384x12x32, .f32⟩
  | 63 => ⟨S16384x12x32, .i1⟩
  | 64 => ⟨S_, .f32⟩
  | 65 => ⟨S16384x12x32, .f32⟩
  | 66 => ⟨S16384x12x32, .f32⟩
  | 67 => ⟨S16384x12x1, .i32⟩
  | 68 => ⟨S16384x12, .i32⟩
  | 69 => ⟨S_, .i32⟩
  | 70 => ⟨S16384x12, .i32⟩
  | 71 => ⟨S16384x12, .i1⟩
  | 72 => ⟨S_, .i32⟩
  | 73 => ⟨S16384x12, .i32⟩
  | 74 => ⟨S16384x12, .i32⟩
  | 75 => ⟨S16384x12, .i32⟩
  | 76 => ⟨S16384x12x1, .i32⟩
  | 77 => ⟨S1, .i32⟩
  | 78 => ⟨S_, .i32⟩
  | 79 => ⟨S16384x12x1, .i32⟩
  | 80 => ⟨S16384x12x1, .i1⟩
  | 81 => ⟨S1x1x1, .i32⟩
  | 82 => ⟨S16384x12x1, .i32⟩
  | 83 => ⟨S16384x12x1, .i1⟩
  | 84 => ⟨S16384x12x1, .i1⟩
  | 85 => ⟨S_, .i1⟩
  | 86 => ⟨S16384x12, .i1⟩
  | 87 => ⟨S16384x12x32, .f32⟩
  | 88 => ⟨S16384x12x32, .i1⟩
  | 89 => ⟨S_, .f32⟩
  | 90 => ⟨S16384x12x32, .f32⟩
  | 91 => ⟨S16384x12x32, .f32⟩
  | 92 => ⟨S16384x12x1, .i32⟩
  | 93 => ⟨S16384x12, .i32⟩
  | 94 => ⟨S_, .i32⟩
  | 95 => ⟨S16384x12, .i32⟩
  | 96 => ⟨S16384x12, .i1⟩
  | 97 => ⟨S_, .i32⟩
  | 98 => ⟨S16384x12, .i32⟩
  | 99 => ⟨S16384x12, .i32⟩
  | 100 => ⟨S16384x12, .i32⟩
  | 101 => ⟨S16384x12x1, .i32⟩
  | 102 => ⟨S1, .i32⟩
  | 103 => ⟨S_, .i32⟩
  | 104 => ⟨S16384x12x1, .i32⟩
  | 105 => ⟨S16384x12x1, .i1⟩
  | 106 => ⟨S1x1x1, .i32⟩
  | 107 => ⟨S16384x12x1, .i32⟩
  | 108 => ⟨S16384x12x1, .i1⟩
  | 109 => ⟨S16384x12x1, .i1⟩
  | 110 => ⟨S_, .i1⟩
  | 111 => ⟨S16384x12, .i1⟩
  | 112 => ⟨S16384x12x32, .f32⟩
  | 113 => ⟨S16384x12x32, .i1⟩
  | 114 => ⟨S_, .f32⟩
  | 115 => ⟨S16384x12x32, .f32⟩
  | 116 => ⟨S16384x12x32, .f32⟩
  | 117 => ⟨S16384x12x1, .i32⟩
  | 118 => ⟨S16384x12, .i32⟩
  | 119 => ⟨S_, .i32⟩
  | 120 => ⟨S16384x12, .i32⟩
  | 121 => ⟨S16384x12, .i1⟩
  | 122 => ⟨S_, .i32⟩
  | 123 => ⟨S16384x12, .i32⟩
  | 124 => ⟨S16384x12, .i32⟩
  | 125 => ⟨S16384x12, .i32⟩
  | 126 => ⟨S16384x12x1, .i32⟩
  | 127 => ⟨S1, .i32⟩
  | _ => ⟨S16384x12x28, .f32⟩

abbrev hbmTy0_1 (i : Nat) : BufTy := match i % 128 with
  | 0 => ⟨S_, .i32⟩
  | 1 => ⟨S16384x12x1, .i32⟩
  | 2 => ⟨S16384x12x1, .i1⟩
  | 3 => ⟨S1x1x1, .i32⟩
  | 4 => ⟨S16384x12x1, .i32⟩
  | 5 => ⟨S16384x12x1, .i1⟩
  | 6 => ⟨S16384x12x1, .i1⟩
  | 7 => ⟨S_, .i1⟩
  | 8 => ⟨S16384x12, .i1⟩
  | 9 => ⟨S16384x12x32, .f32⟩
  | 10 => ⟨S16384x12x32, .i1⟩
  | 11 => ⟨S_, .f32⟩
  | 12 => ⟨S16384x12x32, .f32⟩
  | 13 => ⟨S16384x12x32, .f32⟩
  | 14 => ⟨S16384x12x1, .i32⟩
  | 15 => ⟨S16384x12, .i32⟩
  | 16 => ⟨S_, .i32⟩
  | 17 => ⟨S16384x12, .i32⟩
  | 18 => ⟨S16384x12, .i1⟩
  | 19 => ⟨S_, .i32⟩
  | 20 => ⟨S16384x12, .i32⟩
  | 21 => ⟨S16384x12, .i32⟩
  | 22 => ⟨S16384x12, .i32⟩
  | 23 => ⟨S16384x12x1, .i32⟩
  | 24 => ⟨S1, .i32⟩
  | 25 => ⟨S_, .i32⟩
  | 26 => ⟨S16384x12x1, .i32⟩
  | 27 => ⟨S16384x12x1, .i1⟩
  | 28 => ⟨S1x1x1, .i32⟩
  | 29 => ⟨S16384x12x1, .i32⟩
  | 30 => ⟨S16384x12x1, .i1⟩
  | 31 => ⟨S16384x12x1, .i1⟩
  | 32 => ⟨S_, .i1⟩
  | 33 => ⟨S16384x12, .i1⟩
  | 34 => ⟨S16384x12x32, .f32⟩
  | 35 => ⟨S16384x12x32, .i1⟩
  | 36 => ⟨S_, .f32⟩
  | 37 => ⟨S16384x12x32, .f32⟩
  | 38 => ⟨S16384x12x32, .f32⟩
  | 39 => ⟨S16384x12x1, .i32⟩
  | 40 => ⟨S16384x12, .i32⟩
  | 41 => ⟨S_, .i32⟩
  | 42 => ⟨S16384x12, .i32⟩
  | 43 => ⟨S16384x12, .i1⟩
  | 44 => ⟨S_, .i32⟩
  | 45 => ⟨S16384x12, .i32⟩
  | 46 => ⟨S16384x12, .i32⟩
  | 47 => ⟨S16384x12, .i32⟩
  | 48 => ⟨S16384x12x1, .i32⟩
  | 49 => ⟨S1, .i32⟩
  | 50 => ⟨S_, .i32⟩
  | 51 => ⟨S16384x12x1, .i32⟩
  | 52 => ⟨S16384x12x1, .i1⟩
  | 53 => ⟨S1x1x1, .i32⟩
  | 54 => ⟨S16384x12x1, .i32⟩
  | 55 => ⟨S16384x12x1, .i1⟩
  | 56 => ⟨S16384x12x1, .i1⟩
  | 57 => ⟨S_, .i1⟩
  | 58 => ⟨S16384x12, .i1⟩
  | 59 => ⟨S16384x12x32, .f32⟩
  | 60 => ⟨S16384x12x32, .i1⟩
  | 61 => ⟨S_, .f32⟩
  | 62 => ⟨S16384x12x32, .f32⟩
  | 63 => ⟨S16384x12x32, .f32⟩
  | 64 => ⟨S16384x12x1, .i32⟩
  | 65 => ⟨S16384x12, .i32⟩
  | 66 => ⟨S_, .i32⟩
  | 67 => ⟨S16384x12, .i32⟩
  | 68 => ⟨S16384x12, .i1⟩
  | 69 => ⟨S_, .i32⟩
  | 70 => ⟨S16384x12, .i32⟩
  | 71 => ⟨S16384x12, .i32⟩
  | 72 => ⟨S16384x12, .i32⟩
  | 73 => ⟨S16384x12x1, .i32⟩
  | 74 => ⟨S1, .i32⟩
  | 75 => ⟨S_, .i32⟩
  | 76 => ⟨S16384x12x1, .i32⟩
  | 77 => ⟨S16384x12x1, .i1⟩
  | 78 => ⟨S1x1x1, .i32⟩
  | 79 => ⟨S16384x12x1, .i32⟩
  | 80 => ⟨S16384x12x1, .i1⟩
  | 81 => ⟨S16384x12x1, .i1⟩
  | 82 => ⟨S_, .i1⟩
  | 83 => ⟨S16384x12, .i1⟩
  | 84 => ⟨S16384x12x16, .f32⟩
  | 85 => ⟨S16384x12x16, .i1⟩
  | 86 => ⟨S_, .f32⟩
  | 87 => ⟨S16384x12x16, .f32⟩
  | 88 => ⟨S16384x12x16, .f32⟩
  | 89 => ⟨S16384x12x1, .i32⟩
  | 90 => ⟨S16384x12, .i32⟩
  | 91 => ⟨S_, .i32⟩
  | 92 => ⟨S16384x12, .i32⟩
  | 93 => ⟨S16384x12, .i1⟩
  | 94 => ⟨S_, .i32⟩
  | 95 => ⟨S16384x12, .i32⟩
  | 96 => ⟨S16384x12, .i32⟩
  | 97 => ⟨S16384x12, .i32⟩
  | 98 => ⟨S16384x12x1, .i32⟩
  | 99 => ⟨S1, .i32⟩
  | 100 => ⟨S_, .i32⟩
  | 101 => ⟨S16384x12x1, .i32⟩
  | 102 => ⟨S16384x12x1, .i1⟩
  | 103 => ⟨S1x1x1, .i32⟩
  | 104 => ⟨S16384x12x1, .i32⟩
  | 105 => ⟨S16384x12x1, .i1⟩
  | 106 => ⟨S16384x12x1, .i1⟩
  | 107 => ⟨S_, .i1⟩
  | 108 => ⟨S16384x12, .i1⟩
  | 109 => ⟨S16384x12x8, .f32⟩
  | 110 => ⟨S16384x12x8, .i1⟩
  | 111 => ⟨S_, .f32⟩
  | 112 => ⟨S16384x12x8, .f32⟩
  | 113 => ⟨S16384x12x8, .f32⟩
  | 114 => ⟨S16384x12x280, .f32⟩
  | 115 => ⟨S16384x12x19, .f32⟩
  | 116 => ⟨S16384x12x299, .f32⟩
  | 117 => ⟨S16384x12x384, .f32⟩
  | 118 => ⟨S1x1x384, .f32⟩
  | 119 => ⟨S16384x12x384, .f32⟩
  | 120 => ⟨S16384x12x384, .f32⟩
  | 121 => ⟨S_, .f32⟩
  | 122 => ⟨S16384x12, .f32⟩
  | 123 => ⟨S16384x12x1, .f32⟩
  | 124 => ⟨S_, .f32⟩
  | 125 => ⟨S16384x12x1, .f32⟩
  | 126 => ⟨S16384x12x1, .f32⟩
  | 127 => ⟨S16384x12x384, .f32⟩
  | _ => ⟨S16384x12x28, .f32⟩

abbrev hbmTy0_2 (i : Nat) : BufTy := match i % 128 with
  | 0 => ⟨S16384x12x384, .f32⟩
  | 1 => ⟨S16384x12x384, .f32⟩
  | 2 => ⟨S_, .f32⟩
  | 3 => ⟨S16384x12, .f32⟩
  | 4 => ⟨S16384x12x1, .f32⟩
  | 5 => ⟨S_, .f32⟩
  | 6 => ⟨S16384x12x1, .f32⟩
  | 7 => ⟨S16384x12x1, .f32⟩
  | 8 => ⟨S16384x12x384, .f32⟩
  | 9 => ⟨S16384x12x384, .f32⟩
  | 10 => ⟨S_, .f32⟩
  | 11 => ⟨S16384x12x1, .f32⟩
  | 12 => ⟨S16384x12x1, .f32⟩
  | 13 => ⟨S16384x12x1, .f32⟩
  | 14 => ⟨S16384x12x384, .f32⟩
  | 15 => ⟨S16384x12x384, .f32⟩
  | 16 => ⟨S1x1x384, .f32⟩
  | 17 => ⟨S16384x12x384, .f32⟩
  | 18 => ⟨S16384x12x384, .f32⟩
  | 19 => ⟨S1x1x384, .f32⟩
  | 20 => ⟨S16384x12x384, .f32⟩
  | 21 => ⟨S16384x12x384, .f32⟩
  | _ => ⟨S16384x12x28, .f32⟩

abbrev hbmTy (i : Nat) : BufTy := match i / 128 with
  | 0 => hbmTy0_0 i
  | 1 => hbmTy0_1 i
  | 2 => hbmTy0_2 i
  | _ => ⟨S16384x12x28, .f32⟩

abbrev bufTy : (tb : Table) → Fin (tcTables nBuf tb) → BufTy
  | .hbm, ⟨i, _⟩ => hbmTy i
  | _, _ => ⟨S16384x12x28, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_call0_v0 : Ref sig .tc := ⟨.hbm, 14, rfl⟩
abbrev main_call0_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_call1_c : Ref sig .tc := ⟨.hbm, 19, rfl⟩
abbrev main_call1_v0 : Ref sig .tc := ⟨.hbm, 20, rfl⟩
abbrev main_call1_v1 : Ref sig .tc := ⟨.hbm, 21, rfl⟩
abbrev main_call1_c_0 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_call1_v5 : Ref sig .tc := ⟨.hbm, 26, rfl⟩
abbrev main_call1_c_1 : Ref sig .tc := ⟨.hbm, 27, rfl⟩
abbrev main_call1_c_2 : Ref sig .tc := ⟨.hbm, 28, rfl⟩
abbrev main_call1_v6 : Ref sig .tc := ⟨.hbm, 29, rfl⟩
abbrev main_call1_v7 : Ref sig .tc := ⟨.hbm, 30, rfl⟩
abbrev main_call1_v8 : Ref sig .tc := ⟨.hbm, 31, rfl⟩
abbrev main_call1_v9 : Ref sig .tc := ⟨.hbm, 32, rfl⟩
abbrev main_call1_v10 : Ref sig .tc := ⟨.hbm, 33, rfl⟩
abbrev main_call1_v11 : Ref sig .tc := ⟨.hbm, 34, rfl⟩
abbrev main_call1_c_3 : Ref sig .tc := ⟨.hbm, 35, rfl⟩
abbrev main_call1_v12 : Ref sig .tc := ⟨.hbm, 36, rfl⟩
abbrev main_call1_v13 : Ref sig .tc := ⟨.hbm, 37, rfl⟩
abbrev main_call1_v14 : Ref sig .tc := ⟨.hbm, 38, rfl⟩
abbrev main_call1_cst : Ref sig .tc := ⟨.hbm, 39, rfl⟩
abbrev main_call1_v15 : Ref sig .tc := ⟨.hbm, 40, rfl⟩
abbrev main_v5 : Ref sig .tc := ⟨.hbm, 41, rfl⟩
abbrev main_v6 : Ref sig .tc := ⟨.hbm, 42, rfl⟩
abbrev main_v7 : Ref sig .tc := ⟨.hbm, 43, rfl⟩
abbrev main_call2_c : Ref sig .tc := ⟨.hbm, 44, rfl⟩
abbrev main_call2_v0 : Ref sig .tc := ⟨.hbm, 45, rfl⟩
abbrev main_call2_v1 : Ref sig .tc := ⟨.hbm, 46, rfl⟩
abbrev main_call2_c_0 : Ref sig .tc := ⟨.hbm, 47, rfl⟩
abbrev main_call2_v2 : Ref sig .tc := ⟨.hbm, 48, rfl⟩
abbrev main_call2_v3 : Ref sig .tc := ⟨.hbm, 49, rfl⟩
abbrev main_call2_v4 : Ref sig .tc := ⟨.hbm, 50, rfl⟩
abbrev main_call2_v5 : Ref sig .tc := ⟨.hbm, 51, rfl⟩
abbrev main_call2_c_1 : Ref sig .tc := ⟨.hbm, 52, rfl⟩
abbrev main_call2_c_2 : Ref sig .tc := ⟨.hbm, 53, rfl⟩
abbrev main_call2_v6 : Ref sig .tc := ⟨.hbm, 54, rfl⟩
abbrev main_call2_v7 : Ref sig .tc := ⟨.hbm, 55, rfl⟩
abbrev main_call2_v8 : Ref sig .tc := ⟨.hbm, 56, rfl⟩
abbrev main_call2_v9 : Ref sig .tc := ⟨.hbm, 57, rfl⟩
abbrev main_call2_v10 : Ref sig .tc := ⟨.hbm, 58, rfl⟩
abbrev main_call2_v11 : Ref sig .tc := ⟨.hbm, 59, rfl⟩
abbrev main_call2_c_3 : Ref sig .tc := ⟨.hbm, 60, rfl⟩
abbrev main_call2_v12 : Ref sig .tc := ⟨.hbm, 61, rfl⟩
abbrev main_call2_v13 : Ref sig .tc := ⟨.hbm, 62, rfl⟩
abbrev main_call2_v14 : Ref sig .tc := ⟨.hbm, 63, rfl⟩
abbrev main_call2_cst : Ref sig .tc := ⟨.hbm, 64, rfl⟩
abbrev main_call2_v15 : Ref sig .tc := ⟨.hbm, 65, rfl⟩
abbrev main_v8 : Ref sig .tc := ⟨.hbm, 66, rfl⟩
abbrev main_v9 : Ref sig .tc := ⟨.hbm, 67, rfl⟩
abbrev main_v10 : Ref sig .tc := ⟨.hbm, 68, rfl⟩
abbrev main_call3_c : Ref sig .tc := ⟨.hbm, 69, rfl⟩
abbrev main_call3_v0 : Ref sig .tc := ⟨.hbm, 70, rfl⟩
abbrev main_call3_v1 : Ref sig .tc := ⟨.hbm, 71, rfl⟩
abbrev main_call3_c_0 : Ref sig .tc := ⟨.hbm, 72, rfl⟩
abbrev main_call3_v2 : Ref sig .tc := ⟨.hbm, 73, rfl⟩
abbrev main_call3_v3 : Ref sig .tc := ⟨.hbm, 74, rfl⟩
abbrev main_call3_v4 : Ref sig .tc := ⟨.hbm, 75, rfl⟩
abbrev main_call3_v5 : Ref sig .tc := ⟨.hbm, 76, rfl⟩
abbrev main_call3_c_1 : Ref sig .tc := ⟨.hbm, 77, rfl⟩
abbrev main_call3_c_2 : Ref sig .tc := ⟨.hbm, 78, rfl⟩
abbrev main_call3_v6 : Ref sig .tc := ⟨.hbm, 79, rfl⟩
abbrev main_call3_v7 : Ref sig .tc := ⟨.hbm, 80, rfl⟩
abbrev main_call3_v8 : Ref sig .tc := ⟨.hbm, 81, rfl⟩
abbrev main_call3_v9 : Ref sig .tc := ⟨.hbm, 82, rfl⟩
abbrev main_call3_v10 : Ref sig .tc := ⟨.hbm, 83, rfl⟩
abbrev main_call3_v11 : Ref sig .tc := ⟨.hbm, 84, rfl⟩
abbrev main_call3_c_3 : Ref sig .tc := ⟨.hbm, 85, rfl⟩
abbrev main_call3_v12 : Ref sig .tc := ⟨.hbm, 86, rfl⟩
abbrev main_call3_v13 : Ref sig .tc := ⟨.hbm, 87, rfl⟩
abbrev main_call3_v14 : Ref sig .tc := ⟨.hbm, 88, rfl⟩
abbrev main_call3_cst : Ref sig .tc := ⟨.hbm, 89, rfl⟩
abbrev main_call3_v15 : Ref sig .tc := ⟨.hbm, 90, rfl⟩
abbrev main_v11 : Ref sig .tc := ⟨.hbm, 91, rfl⟩
abbrev main_v12 : Ref sig .tc := ⟨.hbm, 92, rfl⟩
abbrev main_v13 : Ref sig .tc := ⟨.hbm, 93, rfl⟩
abbrev main_call4_c : Ref sig .tc := ⟨.hbm, 94, rfl⟩
abbrev main_call4_v0 : Ref sig .tc := ⟨.hbm, 95, rfl⟩
abbrev main_call4_v1 : Ref sig .tc := ⟨.hbm, 96, rfl⟩
abbrev main_call4_c_0 : Ref sig .tc := ⟨.hbm, 97, rfl⟩
abbrev main_call4_v2 : Ref sig .tc := ⟨.hbm, 98, rfl⟩
abbrev main_call4_v3 : Ref sig .tc := ⟨.hbm, 99, rfl⟩
abbrev main_call4_v4 : Ref sig .tc := ⟨.hbm, 100, rfl⟩
abbrev main_call4_v5 : Ref sig .tc := ⟨.hbm, 101, rfl⟩
abbrev main_call4_c_1 : Ref sig .tc := ⟨.hbm, 102, rfl⟩
abbrev main_call4_c_2 : Ref sig .tc := ⟨.hbm, 103, rfl⟩
abbrev main_call4_v6 : Ref sig .tc := ⟨.hbm, 104, rfl⟩
abbrev main_call4_v7 : Ref sig .tc := ⟨.hbm, 105, rfl⟩
abbrev main_call4_v8 : Ref sig .tc := ⟨.hbm, 106, rfl⟩
abbrev main_call4_v9 : Ref sig .tc := ⟨.hbm, 107, rfl⟩
abbrev main_call4_v10 : Ref sig .tc := ⟨.hbm, 108, rfl⟩
abbrev main_call4_v11 : Ref sig .tc := ⟨.hbm, 109, rfl⟩
abbrev main_call4_c_3 : Ref sig .tc := ⟨.hbm, 110, rfl⟩
abbrev main_call4_v12 : Ref sig .tc := ⟨.hbm, 111, rfl⟩
abbrev main_call4_v13 : Ref sig .tc := ⟨.hbm, 112, rfl⟩
abbrev main_call4_v14 : Ref sig .tc := ⟨.hbm, 113, rfl⟩
abbrev main_call4_cst : Ref sig .tc := ⟨.hbm, 114, rfl⟩
abbrev main_call4_v15 : Ref sig .tc := ⟨.hbm, 115, rfl⟩
abbrev main_v14 : Ref sig .tc := ⟨.hbm, 116, rfl⟩
abbrev main_v15 : Ref sig .tc := ⟨.hbm, 117, rfl⟩
abbrev main_v16 : Ref sig .tc := ⟨.hbm, 118, rfl⟩
abbrev main_call5_c : Ref sig .tc := ⟨.hbm, 119, rfl⟩
abbrev main_call5_v0 : Ref sig .tc := ⟨.hbm, 120, rfl⟩
abbrev main_call5_v1 : Ref sig .tc := ⟨.hbm, 121, rfl⟩
abbrev main_call5_c_0 : Ref sig .tc := ⟨.hbm, 122, rfl⟩
abbrev main_call5_v2 : Ref sig .tc := ⟨.hbm, 123, rfl⟩
abbrev main_call5_v3 : Ref sig .tc := ⟨.hbm, 124, rfl⟩
abbrev main_call5_v4 : Ref sig .tc := ⟨.hbm, 125, rfl⟩
abbrev main_call5_v5 : Ref sig .tc := ⟨.hbm, 126, rfl⟩
abbrev main_call5_c_1 : Ref sig .tc := ⟨.hbm, 127, rfl⟩
abbrev main_call5_c_2 : Ref sig .tc := ⟨.hbm, 128, rfl⟩
abbrev main_call5_v6 : Ref sig .tc := ⟨.hbm, 129, rfl⟩
abbrev main_call5_v7 : Ref sig .tc := ⟨.hbm, 130, rfl⟩
abbrev main_call5_v8 : Ref sig .tc := ⟨.hbm, 131, rfl⟩
abbrev main_call5_v9 : Ref sig .tc := ⟨.hbm, 132, rfl⟩
abbrev main_call5_v10 : Ref sig .tc := ⟨.hbm, 133, rfl⟩
abbrev main_call5_v11 : Ref sig .tc := ⟨.hbm, 134, rfl⟩
abbrev main_call5_c_3 : Ref sig .tc := ⟨.hbm, 135, rfl⟩
abbrev main_call5_v12 : Ref sig .tc := ⟨.hbm, 136, rfl⟩
abbrev main_call5_v13 : Ref sig .tc := ⟨.hbm, 137, rfl⟩
abbrev main_call5_v14 : Ref sig .tc := ⟨.hbm, 138, rfl⟩
abbrev main_call5_cst : Ref sig .tc := ⟨.hbm, 139, rfl⟩
abbrev main_call5_v15 : Ref sig .tc := ⟨.hbm, 140, rfl⟩
abbrev main_v17 : Ref sig .tc := ⟨.hbm, 141, rfl⟩
abbrev main_v18 : Ref sig .tc := ⟨.hbm, 142, rfl⟩
abbrev main_v19 : Ref sig .tc := ⟨.hbm, 143, rfl⟩
abbrev main_call6_c : Ref sig .tc := ⟨.hbm, 144, rfl⟩
abbrev main_call6_v0 : Ref sig .tc := ⟨.hbm, 145, rfl⟩
abbrev main_call6_v1 : Ref sig .tc := ⟨.hbm, 146, rfl⟩
abbrev main_call6_c_0 : Ref sig .tc := ⟨.hbm, 147, rfl⟩
abbrev main_call6_v2 : Ref sig .tc := ⟨.hbm, 148, rfl⟩
abbrev main_call6_v3 : Ref sig .tc := ⟨.hbm, 149, rfl⟩
abbrev main_call6_v4 : Ref sig .tc := ⟨.hbm, 150, rfl⟩
abbrev main_call6_v5 : Ref sig .tc := ⟨.hbm, 151, rfl⟩
abbrev main_call6_c_1 : Ref sig .tc := ⟨.hbm, 152, rfl⟩
abbrev main_call6_c_2 : Ref sig .tc := ⟨.hbm, 153, rfl⟩
abbrev main_call6_v6 : Ref sig .tc := ⟨.hbm, 154, rfl⟩
abbrev main_call6_v7 : Ref sig .tc := ⟨.hbm, 155, rfl⟩
abbrev main_call6_v8 : Ref sig .tc := ⟨.hbm, 156, rfl⟩
abbrev main_call6_v9 : Ref sig .tc := ⟨.hbm, 157, rfl⟩
abbrev main_call6_v10 : Ref sig .tc := ⟨.hbm, 158, rfl⟩
abbrev main_call6_v11 : Ref sig .tc := ⟨.hbm, 159, rfl⟩
abbrev main_call6_c_3 : Ref sig .tc := ⟨.hbm, 160, rfl⟩
abbrev main_call6_v12 : Ref sig .tc := ⟨.hbm, 161, rfl⟩
abbrev main_call6_v13 : Ref sig .tc := ⟨.hbm, 162, rfl⟩
abbrev main_call6_v14 : Ref sig .tc := ⟨.hbm, 163, rfl⟩
abbrev main_call6_cst : Ref sig .tc := ⟨.hbm, 164, rfl⟩
abbrev main_call6_v15 : Ref sig .tc := ⟨.hbm, 165, rfl⟩
abbrev main_v20 : Ref sig .tc := ⟨.hbm, 166, rfl⟩
abbrev main_v21 : Ref sig .tc := ⟨.hbm, 167, rfl⟩
abbrev main_v22 : Ref sig .tc := ⟨.hbm, 168, rfl⟩
abbrev main_call7_c : Ref sig .tc := ⟨.hbm, 169, rfl⟩
abbrev main_call7_v0 : Ref sig .tc := ⟨.hbm, 170, rfl⟩
abbrev main_call7_v1 : Ref sig .tc := ⟨.hbm, 171, rfl⟩
abbrev main_call7_c_0 : Ref sig .tc := ⟨.hbm, 172, rfl⟩
abbrev main_call7_v2 : Ref sig .tc := ⟨.hbm, 173, rfl⟩
abbrev main_call7_v3 : Ref sig .tc := ⟨.hbm, 174, rfl⟩
abbrev main_call7_v4 : Ref sig .tc := ⟨.hbm, 175, rfl⟩
abbrev main_call7_v5 : Ref sig .tc := ⟨.hbm, 176, rfl⟩
abbrev main_call7_c_1 : Ref sig .tc := ⟨.hbm, 177, rfl⟩
abbrev main_call7_c_2 : Ref sig .tc := ⟨.hbm, 178, rfl⟩
abbrev main_call7_v6 : Ref sig .tc := ⟨.hbm, 179, rfl⟩
abbrev main_call7_v7 : Ref sig .tc := ⟨.hbm, 180, rfl⟩
abbrev main_call7_v8 : Ref sig .tc := ⟨.hbm, 181, rfl⟩
abbrev main_call7_v9 : Ref sig .tc := ⟨.hbm, 182, rfl⟩
abbrev main_call7_v10 : Ref sig .tc := ⟨.hbm, 183, rfl⟩
abbrev main_call7_v11 : Ref sig .tc := ⟨.hbm, 184, rfl⟩
abbrev main_call7_c_3 : Ref sig .tc := ⟨.hbm, 185, rfl⟩
abbrev main_call7_v12 : Ref sig .tc := ⟨.hbm, 186, rfl⟩
abbrev main_call7_v13 : Ref sig .tc := ⟨.hbm, 187, rfl⟩
abbrev main_call7_v14 : Ref sig .tc := ⟨.hbm, 188, rfl⟩
abbrev main_call7_cst : Ref sig .tc := ⟨.hbm, 189, rfl⟩
abbrev main_call7_v15 : Ref sig .tc := ⟨.hbm, 190, rfl⟩
abbrev main_v23 : Ref sig .tc := ⟨.hbm, 191, rfl⟩
abbrev main_v24 : Ref sig .tc := ⟨.hbm, 192, rfl⟩
abbrev main_v25 : Ref sig .tc := ⟨.hbm, 193, rfl⟩
abbrev main_call8_c : Ref sig .tc := ⟨.hbm, 194, rfl⟩
abbrev main_call8_v0 : Ref sig .tc := ⟨.hbm, 195, rfl⟩
abbrev main_call8_v1 : Ref sig .tc := ⟨.hbm, 196, rfl⟩
abbrev main_call8_c_0 : Ref sig .tc := ⟨.hbm, 197, rfl⟩
abbrev main_call8_v2 : Ref sig .tc := ⟨.hbm, 198, rfl⟩
abbrev main_call8_v3 : Ref sig .tc := ⟨.hbm, 199, rfl⟩
abbrev main_call8_v4 : Ref sig .tc := ⟨.hbm, 200, rfl⟩
abbrev main_call8_v5 : Ref sig .tc := ⟨.hbm, 201, rfl⟩
abbrev main_call8_c_1 : Ref sig .tc := ⟨.hbm, 202, rfl⟩
abbrev main_call8_c_2 : Ref sig .tc := ⟨.hbm, 203, rfl⟩
abbrev main_call8_v6 : Ref sig .tc := ⟨.hbm, 204, rfl⟩
abbrev main_call8_v7 : Ref sig .tc := ⟨.hbm, 205, rfl⟩
abbrev main_call8_v8 : Ref sig .tc := ⟨.hbm, 206, rfl⟩
abbrev main_call8_v9 : Ref sig .tc := ⟨.hbm, 207, rfl⟩
abbrev main_call8_v10 : Ref sig .tc := ⟨.hbm, 208, rfl⟩
abbrev main_call8_v11 : Ref sig .tc := ⟨.hbm, 209, rfl⟩
abbrev main_call8_c_3 : Ref sig .tc := ⟨.hbm, 210, rfl⟩
abbrev main_call8_v12 : Ref sig .tc := ⟨.hbm, 211, rfl⟩
abbrev main_call8_v13 : Ref sig .tc := ⟨.hbm, 212, rfl⟩
abbrev main_call8_v14 : Ref sig .tc := ⟨.hbm, 213, rfl⟩
abbrev main_call8_cst : Ref sig .tc := ⟨.hbm, 214, rfl⟩
abbrev main_call8_v15 : Ref sig .tc := ⟨.hbm, 215, rfl⟩
abbrev main_v26 : Ref sig .tc := ⟨.hbm, 216, rfl⟩
abbrev main_v27 : Ref sig .tc := ⟨.hbm, 217, rfl⟩
abbrev main_v28 : Ref sig .tc := ⟨.hbm, 218, rfl⟩
abbrev main_call9_c : Ref sig .tc := ⟨.hbm, 219, rfl⟩
abbrev main_call9_v0 : Ref sig .tc := ⟨.hbm, 220, rfl⟩
abbrev main_call9_v1 : Ref sig .tc := ⟨.hbm, 221, rfl⟩
abbrev main_call9_c_0 : Ref sig .tc := ⟨.hbm, 222, rfl⟩
abbrev main_call9_v2 : Ref sig .tc := ⟨.hbm, 223, rfl⟩
abbrev main_call9_v3 : Ref sig .tc := ⟨.hbm, 224, rfl⟩
abbrev main_call9_v4 : Ref sig .tc := ⟨.hbm, 225, rfl⟩
abbrev main_call9_v5 : Ref sig .tc := ⟨.hbm, 226, rfl⟩
abbrev main_call9_c_1 : Ref sig .tc := ⟨.hbm, 227, rfl⟩
abbrev main_call9_c_2 : Ref sig .tc := ⟨.hbm, 228, rfl⟩
abbrev main_call9_v6 : Ref sig .tc := ⟨.hbm, 229, rfl⟩
abbrev main_call9_v7 : Ref sig .tc := ⟨.hbm, 230, rfl⟩
abbrev main_call9_v8 : Ref sig .tc := ⟨.hbm, 231, rfl⟩
abbrev main_call9_v9 : Ref sig .tc := ⟨.hbm, 232, rfl⟩
abbrev main_call9_v10 : Ref sig .tc := ⟨.hbm, 233, rfl⟩
abbrev main_call9_v11 : Ref sig .tc := ⟨.hbm, 234, rfl⟩
abbrev main_call9_c_3 : Ref sig .tc := ⟨.hbm, 235, rfl⟩
abbrev main_call9_v12 : Ref sig .tc := ⟨.hbm, 236, rfl⟩
abbrev main_call9_v13 : Ref sig .tc := ⟨.hbm, 237, rfl⟩
abbrev main_call9_v14 : Ref sig .tc := ⟨.hbm, 238, rfl⟩
abbrev main_call9_cst : Ref sig .tc := ⟨.hbm, 239, rfl⟩
abbrev main_call9_v15 : Ref sig .tc := ⟨.hbm, 240, rfl⟩
abbrev main_v29 : Ref sig .tc := ⟨.hbm, 241, rfl⟩
abbrev main_v30 : Ref sig .tc := ⟨.hbm, 242, rfl⟩
abbrev main_v31 : Ref sig .tc := ⟨.hbm, 243, rfl⟩
abbrev main_v32 : Ref sig .tc := ⟨.hbm, 244, rfl⟩
abbrev main_v33 : Ref sig .tc := ⟨.hbm, 245, rfl⟩
abbrev main_v34 : Ref sig .tc := ⟨.hbm, 246, rfl⟩
abbrev main_v35 : Ref sig .tc := ⟨.hbm, 247, rfl⟩
abbrev main_v36 : Ref sig .tc := ⟨.hbm, 248, rfl⟩
abbrev main_cst : Ref sig .tc := ⟨.hbm, 249, rfl⟩
abbrev main_v37 : Ref sig .tc := ⟨.hbm, 250, rfl⟩
abbrev main_v38 : Ref sig .tc := ⟨.hbm, 251, rfl⟩
abbrev main_cst_0 : Ref sig .tc := ⟨.hbm, 252, rfl⟩
abbrev main_v39 : Ref sig .tc := ⟨.hbm, 253, rfl⟩
abbrev main_v40 : Ref sig .tc := ⟨.hbm, 254, rfl⟩
abbrev main_v41 : Ref sig .tc := ⟨.hbm, 255, rfl⟩
abbrev main_v42 : Ref sig .tc := ⟨.hbm, 256, rfl⟩
abbrev main_v43 : Ref sig .tc := ⟨.hbm, 257, rfl⟩
abbrev main_cst_1 : Ref sig .tc := ⟨.hbm, 258, rfl⟩
abbrev main_v44 : Ref sig .tc := ⟨.hbm, 259, rfl⟩
abbrev main_v45 : Ref sig .tc := ⟨.hbm, 260, rfl⟩
abbrev main_cst_2 : Ref sig .tc := ⟨.hbm, 261, rfl⟩
abbrev main_v46 : Ref sig .tc := ⟨.hbm, 262, rfl⟩
abbrev main_v47 : Ref sig .tc := ⟨.hbm, 263, rfl⟩
abbrev main_v48 : Ref sig .tc := ⟨.hbm, 264, rfl⟩
abbrev main_v49 : Ref sig .tc := ⟨.hbm, 265, rfl⟩
abbrev main_cst_3 : Ref sig .tc := ⟨.hbm, 266, rfl⟩
abbrev main_v50 : Ref sig .tc := ⟨.hbm, 267, rfl⟩
abbrev main_v51 : Ref sig .tc := ⟨.hbm, 268, rfl⟩
abbrev main_v52 : Ref sig .tc := ⟨.hbm, 269, rfl⟩
abbrev main_v53 : Ref sig .tc := ⟨.hbm, 270, rfl⟩
abbrev main_v54 : Ref sig .tc := ⟨.hbm, 271, rfl⟩
abbrev main_v55 : Ref sig .tc := ⟨.hbm, 272, rfl⟩
abbrev main_v56 : Ref sig .tc := ⟨.hbm, 273, rfl⟩
abbrev main_v57 : Ref sig .tc := ⟨.hbm, 274, rfl⟩
abbrev main_v58 : Ref sig .tc := ⟨.hbm, 275, rfl⟩
abbrev main_v59 : Ref sig .tc := ⟨.hbm, 276, rfl⟩
abbrev main_v60 : Ref sig .tc := ⟨.hbm, 277, rfl⟩

abbrev nD : Nat := 1
abbrev τ : Topo := Topo.v7x

variable {F : FTy → Type} [FloatOps F]
-- ==== Proof.Norm.lean ====
/- Arithmetic on the extended reals, free of either program: the normalisation of one row, written as
   the kernel writes it and as the reference writes it, and the two shapes of sums both programs take
   over a row of features. -/
module

public import Idealize.ShloMosaic.Lib.Pointwise

@[expose] public section

set_option maxRecDepth 16384

noncomputable section

open Idealize.ShloMosaic

namespace Cert.Norm

/-- The constant both programs divide by: the row length 384, as its f32 pattern. -/
def len : EReal := Ideal.ofBits .f32 0x43C00000#32

/-- The constant both programs add to the variance, as its f32 pattern. -/
def eps : EReal := Ideal.ofBits .f32 0x3727C5AC#32

/-- The mean of a row. -/
def mean (H : Fin 384 → EReal) : EReal := Ideal.div (∑ k, H k) len

/-- The variance of a row plus the small constant. -/
def spread (H : Fin 384 → EReal) : EReal :=
  Ideal.div (∑ k, (H k - mean H) * (H k - mean H)) len + eps

/-- A row normalised as the kernel does it: the centred entry times the reciprocal root. -/
def normMul (H : Fin 384 → EReal) (h : Fin 384) : EReal := (H h - mean H) * Ideal.rsqrt (spread H)

/-- A row normalised as the reference does it: the centred entry divided by the root. -/
def normDiv (H : Fin 384 → EReal) (h : Fin 384) : EReal := Ideal.div (H h - mean H) (Ideal.sqrt (spread H))

/-- A square is nonnegative, at the infinities too. -/
theorem square_nonneg (x : EReal) : 0 ≤ x * x := by
  induction x using EReal.rec with
  | bot => simp
  | top => simp
  | coe r => rw [← EReal.coe_mul]; exact_mod_cast mul_self_nonneg r

/-- The row length is the real number 384. -/
theorem len_eq : len = ((384 : ℝ) : EReal) := by
  simp [len, Ideal.ofBits, Ideal.ieee]
  rw [← EReal.coe_mul]
  norm_num

/-- The small constant is a positive real. -/
theorem eps_pos : 0 < eps := by
  simp [eps, Ideal.ofBits, Ideal.ieee]
  rw [← EReal.coe_mul]
  exact EReal.coe_pos.mpr (by norm_num)

/-- The variance of a row plus the small constant is positive. -/
theorem spread_pos (H : Fin 384 → EReal) : 0 < spread H := by
  have hs : 0 ≤ ∑ k, (H k - mean H) * (H k - mean H) := Finset.sum_nonneg fun k _ => square_nonneg _
  have hd : 0 ≤ Ideal.div (∑ k, (H k - mean H) * (H k - mean H)) len := by
    rw [len_eq, Ideal.div, if_neg (by norm_num)]
    refine mul_nonneg hs ?_
    rw [← EReal.coe_inv]
    exact_mod_cast (by norm_num : (0 : ℝ) ≤ 384⁻¹)
  exact lt_of_lt_of_le eps_pos (le_add_of_nonneg_left hd)

/-- Over a positive spread, multiplying by the reciprocal root is dividing by the root. -/
theorem mul_rsqrt (a v : EReal) (hv : 0 < v) : a * Ideal.rsqrt v = Ideal.div a (Ideal.sqrt v) := by
  induction v using EReal.rec with
  | bot => simp at hv
  | top => simp [Ideal.div]
  | coe r =>
    have hr : 0 < r := by exact_mod_cast hv
    have hq : (Real.sqrt r : EReal) ≠ 0 := by exact_mod_cast (Real.sqrt_pos.mpr hr).ne'
    rw [Ideal.rsqrt_coe, Ideal.sqrt_coe, if_neg hr.not_gt, if_neg hr.not_gt, if_neg hr.ne', Ideal.div, if_neg hq,
      EReal.coe_inv]

/-- The two ways of normalising a row give the same entry. -/
theorem normMul_eq_normDiv (H : Fin 384 → EReal) (h : Fin 384) : normMul H h = normDiv H h :=
  mul_rsqrt _ _ (spread_pos H)

/-- A sum over `a + b` lanes is the sum over the first `a` and the sum over the last `b`. -/
theorem sum_cut {n : ℕ} (a b : ℕ) (hn : n = a + b) (f : Fin n → EReal) :
    ∑ k, f k = (∑ i : Fin a, f ⟨i, by omega⟩) + ∑ j : Fin b, f ⟨a + j, by omega⟩ := by
  subst hn
  exact Fin.sum_univ_add f

/-- A sum weighted by an indicator of one lane is the entry at that lane. -/
theorem sum_indicator {n : ℕ} (v : Fin n) (w f : Fin n → EReal) (hw : ∀ i, w i = if i = v then 1 else 0) :
    ∑ i, w i * f i = f v := by
  rw [Finset.sum_eq_single v (fun i _ hi => by rw [hw, if_neg hi, zero_mul]) (fun hv => absurd (Finset.mem_univ v) hv),
    hw, if_pos rfl, one_mul]

end Cert.Norm

end
-- ==== Proof.Row.lean ====
/- What one store of the kernel's body writes, read at one entry: the features of one row are turned
   into 199 weights (an indicator of the row's category index in each block of 20, then the 19
   continuous features), contracted with the 199-row matrix in scratch, and normalised. -/
module

public import proofs.«01_k».proof.Proof.Norm
public import proofs.«01_k».proof.Proof.Gen.KernelIdeal.Skeleton
public import Idealize.ShloMosaic.Lib.Pointwise
public import Idealize.ShloMosaic.Lib.WordCmp

@[expose] public section

set_option maxRecDepth 16384

noncomputable section

open Idealize.ShloMosaic Idealize.ShloMosaic.TcCoe Idealize.SL.Sem

namespace Cert.Row
open Cert.KernelIdeal Cert.KernelIdeal.Gen Cert.Norm

/-- The feature that lane `c` of the 199 reads: `c / 20` in the nine category blocks, `c - 171` after them. -/
def pick (c : Fin 199) : Fin 28 := if h : (c : ℕ) < 180 then ⟨(c : ℕ) / 20, by omega⟩ else ⟨(c : ℕ) - 171, by omega⟩

/-- The word lane `c` of the 199 compares its feature with, as an integer: `c % 20` in the category blocks, -1 after. -/
def target (c : Fin 199) : ℤ := if (c : ℕ) < 180 then ((c : ℕ) % 20 : ℕ) else -1

/-- The weight of lane `c` for a row of 28 features: in a category block whether the feature is the lane's
    number, after them the feature itself. -/
def weight (x : Fin 28 → EReal) (c : Fin 199) : EReal :=
  if (c : ℕ) < 180 then (if x (pick c) = ((target c : ℝ) : EReal) then 1 else 0) else x (pick c)

/-- The lane mask of the kernel is set exactly in the category blocks. -/
theorem mask_at (c : Fin 199) : k0_pay10 (ix2 0 c) = BitVec.ofBool (decide ((c : ℕ) < 180)) := by
  pointwise [k0_pay10]
  word_cmp

/-- The integer word of the selection matrix at `(d, c)`: one where `d` is the feature lane `c` reads. -/
theorem pick_word : ∀ c : Fin 199, ∀ d : Fin 28,
    (BitVec.setWidth 32
        (IntOp.cmpi CmpIPredicate.eq (BitVec.ofNat 32 ↑d)
          (Scalar.select (IntOp.cmpi CmpIPredicate.slt (BitVec.ofNat 32 ↑c) 180#32)
            (Scalar.select
              (IntOp.andi
                (IntOp.cmpi CmpIPredicate.ne
                  (IntOp.subi (BitVec.setWidth 32 (IntOp.cmpi CmpIPredicate.sgt (BitVec.ofNat 32 ↑c) 0#32))
                    (BitVec.setWidth 32 (IntOp.cmpi CmpIPredicate.slt (BitVec.ofNat 32 ↑c) 0#32)))
                  (Scalar.subi (Scalar.extui (Scalar.cmpi CmpIPredicate.sgt 20#32 0#32))
                    (Scalar.extui (Scalar.cmpi CmpIPredicate.slt 20#32 0#32))))
                (IntOp.cmpi CmpIPredicate.ne (IntOp.remsi ArithUnit.vector (BitVec.ofNat 32 ↑c) 20#32) 0#32))
              (IntOp.subi (IntOp.divsi ArithUnit.vector (BitVec.ofNat 32 ↑c) 20#32) 1#32)
              (IntOp.divsi ArithUnit.vector (BitVec.ofNat 32 ↑c) 20#32))
            (IntOp.subi (BitVec.ofNat 32 ↑c) 171#32)))).toInt = if d = pick c then 1 else 0 := by
  decide +kernel

/-- The selection matrix at `(d, c)`: one where `d` is the feature lane `c` reads, zero elsewhere. -/
theorem select_at (d : Fin 28) (c : Fin 199) :
    k0_pay11 (F := Ideal) (ix2 d c) = if d = pick c then 1 else 0 := by
  pointwise [k0_pay11, k0_pay10]
  refine (congrArg (fun z : ℤ => ((z : ℝ) : EReal)) (pick_word c d)).trans ?_
  split <;> simp

/-- The integer word lane `c` compares its feature with. -/
theorem target_word : ∀ c : Fin 199,
    (Scalar.select (IntOp.cmpi CmpIPredicate.slt (BitVec.ofNat 32 ↑c) 180#32)
        (Scalar.select
          (IntOp.andi
            (IntOp.xori
              (IntOp.cmpi CmpIPredicate.slt
                (IntOp.remsi ArithUnit.vector (BitVec.ofNat 32 ↑c)
                  (Scalar.select (Scalar.cmpi CmpIPredicate.eq 20#32 0#32) 1#32 20#32))
                0#32)
              (Scalar.cmpi CmpIPredicate.slt 20#32 0#32))
            (IntOp.cmpi CmpIPredicate.ne
              (IntOp.remsi ArithUnit.vector (BitVec.ofNat 32 ↑c)
                (Scalar.select (Scalar.cmpi CmpIPredicate.eq 20#32 0#32) 1#32 20#32))
              0#32))
          (IntOp.addi
            (IntOp.remsi ArithUnit.vector (BitVec.ofNat 32 ↑c)
              (Scalar.select (Scalar.cmpi CmpIPredicate.eq 20#32 0#32) 1#32 20#32))
            20#32)
          (IntOp.remsi ArithUnit.vector (BitVec.ofNat 32 ↑c)
            (Scalar.select (Scalar.cmpi CmpIPredicate.eq 20#32 0#32) 1#32 20#32)))
        4294967295#32).toInt = target c := by
  decide +kernel

/-- The row of comparison numbers at lane `c`. -/
theorem target_at (c : Fin 199) :
    k0_pay13 (F := Ideal) k0_pay10 20#32 k0_pay12 0#32 (ix2 0 c) = ((target c : ℝ) : EReal) := by
  pointwise [k0_pay10, k0_pay13, k0_pay12]
  exact congrArg (fun z : ℤ => ((z : ℝ) : EReal)) (target_word c)

/-- Contracting a row of features with the selection matrix reads the feature the lane picks. -/
theorem sum_select (x : Fin 28 → EReal) (c : Fin 199) :
    ∑ d, x d * k0_pay11 (F := Ideal) (ix2 d c) = x (pick c) := by
  refine (Finset.sum_congr rfl fun d _ => mul_comm _ _).trans ?_
  exact sum_indicator (pick c) _ x fun d => select_at d c

/-- The weight as the kernel computes it: the comparison's bit widened and converted, or the feature, by the mask. -/
theorem weight_at (x : Fin 28 → EReal) (c : Fin 199) :
    Scalar.select (k0_pay10 (ix2 0 c))
      (FloatOps.sitofp (F := Ideal) FTy.f32
        (BitVec.setWidth 32
          (BitVec.ofBool (decide (∑ d, x d * k0_pay11 (F := Ideal) (ix2 d c)
            = k0_pay13 (F := Ideal) k0_pay10 20#32 k0_pay12 0#32 (ix2 0 c))))))
      (∑ d, x d * k0_pay11 (F := Ideal) (ix2 d c)) = weight x c := by
  rw [sum_select, target_at, mask_at]
  unfold weight
  by_cases hc : (c : ℕ) < 180
  · simp only [hc, decide_true, if_true]
    by_cases hx : x (pick c) = ((target c : ℝ) : EReal)
    · simp only [hx, decide_true, if_true]
      show (((1 : ℤ) : ℝ) : EReal) = 1
      simp
    · simp only [hx, decide_false, if_false]
      show (((0 : ℤ) : ℝ) : EReal) = 0
      simp
  · simp only [hc, decide_false, if_false]
    rfl

/-- One store of the body at entry `(r, h)`: the weights of row `r`'s features contracted with column `h` of the
    scratch matrix, normalised along the row. -/
theorem row_at (P : FVec Ideal S199x384 .f32) (x : FVec Ideal S1x28x512 .f32) (r : Fin 512) (h : Fin 384) :
    k0_pay16 (F := Ideal) k0_pay10 k0_pay11 (k0_pay13 k0_pay10 20#32 k0_pay12 0#32) P x (ix3 0 r h)
      = normMul (fun h => ∑ c, weight (fun d => x (ix3 0 d r)) c * P (ix2 c h)) h := by
  pointwise [k0_pay16]
  simp only [weight_at (fun d => x (ix3 0 d r))]
  rfl

end Cert.Row

end
-- ==== Proof.Tile.lean ====
/- What one grid point of the kernel leaves in its two memories: the output block, row by row, as the normalised
   product of the row's 199 weights with the scratch matrix, and the scratch matrix itself, which the first point
   builds and no later point changes. -/
module

public import proofs.«01_k».proof.Proof.Row
public import proofs.«01_k».proof.Proof.Gen.KernelIdeal.Frame
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Tile
open Cert.KernelIdeal Cert.KernelIdeal.Gen Cert.Norm Cert.Row
variable (m : (ℓ : Loc nD τ sig) → Buf (Elt Ideal) ℓ)

/-- The twelve stores of the body write one and the same function of the loaded features: the printed text splits
    it at different places, and each split puts together to the unsplit one. -/
theorem stores_same (a : IVec S1x199 1) (g : FVec Ideal S28x199 .f32) (k : FVec Ideal S1x199 .f32)
    (P : FVec Ideal S199x384 .f32) (x : FVec Ideal S1x28x512 .f32) :
    k0_pay15 (k0_pay14 k0_pay10 g 20#32 k0_pay12 0#32 P x)
        = k0_pay16 k0_pay10 g (k0_pay13 k0_pay10 20#32 k0_pay12 0#32) P x
    ∧ k0_pay19 a P (k0_pay17 g x) (k0_pay18 g k x) = k0_pay16 a g k P x
    ∧ k0_pay22 (k0_pay20 a g k P x) (k0_pay21 a g k P x) = k0_pay16 a g k P x
    ∧ k0_pay23 a g k P x = k0_pay16 a g k P x
    ∧ k0_pay24 a g k P x = k0_pay16 a g k P x
    ∧ k0_pay26 P (k0_pay25 a g k x) (constant S512x384 .f32 0x00000000#32) = k0_pay16 a g k P x
    ∧ k0_pay29 (k0_pay27 a g k P x) (k0_pay28 a g k P x) = k0_pay16 a g k P x
    ∧ k0_pay30 a g k P x = k0_pay16 a g k P x
    ∧ k0_pay31 a g k P x = k0_pay16 a g k P x
    ∧ k0_pay34 (k0_pay32 a g k P x) (k0_pay33 a g k P x) = k0_pay16 a g k P x
    ∧ k0_pay1 (k0_pay35 a g k P x) (k0_pay36 a g k P x) = k0_pay16 a g k P x :=
  ⟨rfl, rfl, rfl, rfl, rfl, rfl, rfl, rfl, rfl, rfl, rfl⟩

/-- One store at one entry, against the block it was loaded from: `x` is the entry inside the store, `y` the entry of
    the output block it lands on, `L` the loaded slice of the feature block `X`. -/
theorem store_at (P S : FVec Ideal S199x384 .f32) (hP : P = S) (X : FVec Ideal S12x28x512 .f32)
    (L : FVec Ideal S1x28x512 .f32) (x : S1x512x384.Idx) (y : S12x512x384.Idx)
    (h1 : (y 1 : ℕ) = x 1) (h2 : (y 2 : ℕ) = x 2)
    (hL : ∀ d : Fin 28, L (ix3 0 d (x 1)) = X (ix3 (y 0) d (x 1))) :
    k0_pay16 (F := Ideal) k0_pay10 k0_pay11 (k0_pay13 k0_pay10 20#32 k0_pay12 0#32) P L x
      = normMul (fun h => ∑ k, weight (fun d => X (ix3 (y 0) d (y 1))) k * S (ix2 k h)) (y 2) := by
  subst hP
  have e1 : y 1 = x 1 := Fin.ext h1
  have e2 : y 2 = x 2 := Fin.ext h2
  have e0 : x = ix3 0 (x 1) (x 2) := (eq_ix3 x).trans (congrArg (fun a => ix3 a (x 1) (x 2)) (Subsingleton.elim _ _))
  have hw : (fun d => L (ix3 0 d (x 1))) = fun d => X (ix3 (y 0) d (y 1)) := funext fun d => (hL d).trans (by rw [e1])
  rw [e0, e2]
  refine (row_at P L (x 1) (x 2)).trans ?_
  rw [hw]

/-- What the output block holds after a point that carries the scratch matrix over: each entry is its row's weights
    contracted with that matrix, normalised. -/
theorem out_B (c : Dev nD) (t : Fin cfg0.N) (h0 : ¬ t.val % 32 = 0) (y : S12x512x384.Idx) :
    (outsAt0 m c t.val t.isLt).1 y
      = normMul (fun h => ∑ k, weight (fun d => iblk m c 0 t (ix3 (y 0) d (y 1))) k
          * (outsAt0 m c t.val t.isLt).2 (ix2 k h)) (y 2) := by
  rw [outsAt0_B m c t h0]
  frame_out
  simp only [stores_same]
  canon_tiles x hx
  all_goals
    refine store_at _ _ (Memref.IsWhole.read_unread _ _) (iblk m c 0 t) _ x y hx1 hx2 fun d => ?_
    pointwise
    blk_ext

set_option maxHeartbeats 1000000 in
/-- What the output block holds after the point that builds the scratch matrix: the same function of the matrix it built. -/
theorem out_A (c : Dev nD) (t : Fin cfg0.N) (h0 : t.val % 32 = 0) (y : S12x512x384.Idx) :
    (outsAt0 m c t.val t.isLt).1 y
      = normMul (fun h => ∑ k, weight (fun d => iblk m c 0 t (ix3 (y 0) d (y 1))) k
          * (outsAt0 m c t.val t.isLt).2 (ix2 k h)) (y 2) := by
  rw [outsAt0_A m c t h0]
  frame_out
  simp only [stores_same]
  canon_tiles x hx
  all_goals
    refine store_at _ _ rfl (iblk m c 0 t) _ x y hx1 hx2 fun d => ?_
    pointwise
    blk_ext

/-- A point other than the first leaves the scratch matrix as the point before left it. -/
theorem scratch_step (c : Dev nD) (t : Fin cfg0.N) (h0 : ¬ t.val % 32 = 0) :
    (outsAt0 m c t.val t.isLt).2 = (outsAt0 m c (t.val - 1) (Nat.lt_of_le_of_lt (Nat.sub_le _ _) t.isLt)).2 := by
  rw [outsAt0_B m c t h0]
  rfl

/-- The scratch matrix never changes: after every point it is what the first point built. -/
theorem scratch_const (c : Dev nD) (t₀ : Fin cfg0.N) (ht₀ : t₀.val = 0) (n : ℕ) :
    ∀ t : Fin cfg0.N, t.val = n → (outsAt0 m c t.val t.isLt).2 = (outsAt0 m c t₀.val t₀.isLt).2 := by
  induction n with
  | zero =>
    intro t ht
    obtain rfl : t = t₀ := Fin.ext (ht.trans ht₀.symm)
    rfl
  | succ n ih =>
    intro t ht
    have hN : t.val < 32 := lt_of_lt_of_eq t.isLt N_0
    rw [scratch_step m c t (by omega)]
    exact ih ⟨t.val - 1, Nat.lt_of_le_of_lt (Nat.sub_le _ _) t.isLt⟩ (by show t.val - 1 = n; omega)

end Cert.Tile

end
-- ==== Proof.Feature.lean ====
/- The category numbers of a row of features, and what the 199 weights of such a row pick out of a sum. -/
module

public import proofs.«01_k».proof.Proof.Row

@[expose] public section

set_option maxRecDepth 16384

noncomputable section

open Idealize.ShloMosaic

namespace Cert.Feature
open Cert.KernelIdeal Cert.Norm Cert.Row

/-- The category number a feature stands for. -/
def cat (v : EReal) : Fin 20 := ⟨(Ideal.fptosi 32 v).toNat % 20, Nat.mod_lt _ (by omega)⟩

/-- The first nine features of a row are category numbers, written as numbers. -/
def Whole (x : Fin 28 → EReal) : Prop :=
  ∀ f : Fin 9, x ⟨f, by omega⟩ = (((cat (x ⟨f, by omega⟩) : ℕ) : ℝ) : EReal)

/-- The hidden row before normalisation, for a row of 28 features: one row of each of the nine tables times its slice
    of the weights, and the last nineteen features times theirs. -/
def hid (x : Fin 28 → EReal) (sp : FVec Ideal S200x64 .f32) (mv : FVec Ideal S400x32 .f32)
    (it : FVec Ideal S80x32 .f32) (ab : FVec Ideal S150x32 .f32) (ty : FVec Ideal S150x16 .f32)
    (st : FVec Ideal S20x8 .f32) (W : FVec Ideal S299x384 .f32) (h : Fin 384) : EReal :=
  ∑ j : Fin 64, sp (ix2 ⟨cat (x 0), by omega⟩ j) * W (ix2 ⟨j, by omega⟩ h)
  + (∑ j : Fin 32, mv (ix2 ⟨cat (x 1), by omega⟩ j) * W (ix2 ⟨64 + j, by omega⟩ h)
  + (∑ j : Fin 32, mv (ix2 ⟨cat (x 2), by omega⟩ j) * W (ix2 ⟨96 + j, by omega⟩ h)
  + (∑ j : Fin 32, mv (ix2 ⟨cat (x 3), by omega⟩ j) * W (ix2 ⟨128 + j, by omega⟩ h)
  + (∑ j : Fin 32, mv (ix2 ⟨cat (x 4), by omega⟩ j) * W (ix2 ⟨160 + j, by omega⟩ h)
  + (∑ j : Fin 32, it (ix2 ⟨cat (x 5), by omega⟩ j) * W (ix2 ⟨192 + j, by omega⟩ h)
  + (∑ j : Fin 32, ab (ix2 ⟨cat (x 6), by omega⟩ j) * W (ix2 ⟨224 + j, by omega⟩ h)
  + (∑ j : Fin 16, ty (ix2 ⟨cat (x 7), by omega⟩ j) * W (ix2 ⟨256 + j, by omega⟩ h)
  + (∑ j : Fin 8, st (ix2 ⟨cat (x 8), by omega⟩ j) * W (ix2 ⟨272 + j, by omega⟩ h)
  + ∑ j : Fin 19, x ⟨9 + j, by omega⟩ * W (ix2 ⟨280 + j, by omega⟩ h)))))))))

/-- In category block `f` the weight is one at the row's category number and zero elsewhere. -/
theorem weight_cat (x : Fin 28 → EReal) (hx : Whole x) (f : Fin 9) (v : Fin 20) (k : Fin 199)
    (hk : (k : ℕ) = 20 * f + v) :
    weight x k = if v = cat (x ⟨f, by omega⟩) then 1 else 0 := by
  have hp : pick k = ⟨f, by omega⟩ := by
    unfold pick
    rw [dif_pos (by omega)]
    exact Fin.ext (by show (k : ℕ) / 20 = f; omega)
  have ht : target k = ((v : ℕ) : ℤ) := by
    unfold target
    rw [if_pos (by omega)]
    exact congrArg Nat.cast (by omega : (k : ℕ) % 20 = v)
  unfold weight
  rw [if_pos (by omega), hp, ht]
  refine if_congr ⟨fun h => ?_, fun h => ?_⟩ rfl rfl
  · have e := EReal.coe_eq_coe_iff.mp ((hx f).symm.trans h)
    rw [Int.cast_natCast, Nat.cast_inj] at e
    exact Fin.ext e.symm
  · refine (hx f).trans (EReal.coe_eq_coe_iff.mpr ?_)
    rw [Int.cast_natCast, h]

/-- After the category blocks the weight is the feature itself. -/
theorem weight_rest (x : Fin 28 → EReal) (j : Fin 19) (k : Fin 199) (hk : (k : ℕ) = 180 + j) :
    weight x k = x ⟨9 + j, by omega⟩ := by
  unfold weight
  rw [if_neg (by omega)]
  refine congrArg x ?_
  unfold pick
  rw [dif_neg (by omega)]
  exact Fin.ext (by show (k : ℕ) - 171 = 9 + j; omega)

/-- A sum over category block `f` of weights times values is the value at the row's category number. -/
theorem sum_cat (x : Fin 28 → EReal) (hx : Whole x) (f : Fin 9) (k : Fin 20 → Fin 199)
    (hk : ∀ v, (k v : ℕ) = 20 * f + v) (g : Fin 20 → EReal) :
    ∑ v, weight x (k v) * g v = g (cat (x ⟨f, by omega⟩)) :=
  sum_indicator (cat (x ⟨f, by omega⟩)) _ g fun v => weight_cat x hx f v (k v) (hk v)

/-- A sum over the last lanes of weights times values has the last features as weights. -/
theorem sum_rest (x : Fin 28 → EReal) (k : Fin 19 → Fin 199) (hk : ∀ j, (k j : ℕ) = 180 + j) (g : Fin 19 → EReal) :
    ∑ j, weight x (k j) * g j = ∑ j : Fin 19, x ⟨9 + j, by omega⟩ * g j :=
  Finset.sum_congr rfl fun j _ => congrArg (· * g j) (weight_rest x j (k j) (hk j))

end Cert.Feature

end
-- ==== Proof.Scratch.lean ====
/- What the kernel's scratch matrix holds, as the sums its rows enter: the matrix has, per category block, the first
   twenty rows of a table times that table's slice of the weights, and the weights of the last features after them. -/
module

public import proofs.«01_k».proof.Proof.Tile
public import proofs.«01_k».proof.Proof.Feature

@[expose] public section

set_option maxRecDepth 16384

noncomputable section

open Idealize.ShloMosaic Idealize.ShloMosaic.TcCoe Idealize.SL.Sem
open Idealize.ShloMosaic.Pipeline (Dat)

namespace Cert.Scratch
open Cert.KernelIdeal Cert.KernelIdeal.Gen Cert.Norm Cert.Row Cert.Feature
variable (m : (ℓ : Loc nD τ sig) → Buf (Elt Ideal) ℓ)

/-- The block indices of the windows of the operands: the tables and the weights are whole at every point, and the
    features move along their last axis. -/
theorem idx : ∀ t : Fin cfg0.N, win0_0.index t = ![0, 0, t.val] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, t.val, 0] :=
  (by decide +kernel : ∀ t : Fin grid0.N, _)

/-- What the region finds in the operands the host line wrote: the transposed features and tables. -/
theorem entries (c : Dev nD) :
    V m c main_call0_v0 = transpose S12x28x16384 [1, 2, 0] (m ((c.tc : Thread nD τ).loc main_arg0)) transposes_S16384x12x28_S12x28x16384_1_2_0
    ∧ V m c main_call0_v1 = transpose S64x200 [1, 0] (m ((c.tc : Thread nD τ).loc main_arg1)) transposes_S200x64_S64x200_1_0
    ∧ V m c main_call0_v2 = transpose S32x400 [1, 0] (m ((c.tc : Thread nD τ).loc main_arg2)) transposes_S400x32_S32x400_1_0
    ∧ V m c main_call0_v3 = transpose S32x80 [1, 0] (m ((c.tc : Thread nD τ).loc main_arg3)) transposes_S80x32_S32x80_1_0
    ∧ V m c main_call0_v4 = transpose S32x150 [1, 0] (m ((c.tc : Thread nD τ).loc main_arg4)) transposes_S150x32_S32x150_1_0
    ∧ V m c main_call0_v5 = transpose S16x150 [1, 0] (m ((c.tc : Thread nD τ).loc main_arg5)) transposes_S150x16_S16x150_1_0
    ∧ V m c main_call0_v6 = transpose S8x20 [1, 0] (m ((c.tc : Thread nD τ).loc main_arg6)) transposes_S20x8_S8x20_1_0 := by
  refine ⟨?_, ?_, ?_, ?_, ?_, ?_, ?_⟩
  all_goals
    change StableHlo.after hostOps0 (fun b => m (c, b)) _ = _
    simp only [hostOps0]
    entry_read
    rfl

/-- A block of the features at `(a, d, r)`: row `512 t + r` of the features. -/
theorem blk0 (c : Dev nD) (t : Fin cfg0.N) (a : Fin 12) (d : Fin 28) (r : Fin 512) :
    iblk m c 0 t (ix3 a d r) = m ((c.tc : Thread nD τ).loc main_arg0)
      (ix3 ⟨t.val * 512 + r, by have h : t.val < 32 := lt_of_lt_of_eq t.isLt N_0; omega⟩ a d) := by
  obtain ⟨i0, -⟩ := idx t
  refine Eq.trans (b := V m c main_call0_v0
    (ix3 a d ⟨t.val * 512 + r, by have h : t.val < 32 := lt_of_lt_of_eq t.isLt N_0; omega⟩)) ?_ ?_
  · unfold iblk
    blk_ext [i0]
  · rw [(entries m c).1]
    pointwise

/-- The block of table 1 at `(j, v)`: entry `j` of the table's row `v`. -/
theorem blk1 (c : Dev nD) (t : Fin cfg0.N) (j : Fin 64) (v : Fin 200) :
    iblk m c 1 t (ix2 j v) = m ((c.tc : Thread nD τ).loc main_arg1) (ix2 v j) := by
  obtain ⟨-, i1, -⟩ := idx t
  refine Eq.trans (b := V m c main_call0_v1 (ix2 j v)) ?_ ?_
  · unfold iblk
    blk_ext [i1]
  · rw [(entries m c).2.1]
    pointwise

/-- The block of table 2 at `(j, v)`: entry `j` of the table's row `v`. -/
theorem blk2 (c : Dev nD) (t : Fin cfg0.N) (j : Fin 32) (v : Fin 400) :
    iblk m c 2 t (ix2 j v) = m ((c.tc : Thread nD τ).loc main_arg2) (ix2 v j) := by
  obtain ⟨-, -, i2, -⟩ := idx t
  refine Eq.trans (b := V m c main_call0_v2 (ix2 j v)) ?_ ?_
  · unfold iblk
    blk_ext [i2]
  · rw [(entries m c).2.2.1]
    pointwise

/-- The block of table 3 at `(j, v)`: entry `j` of the table's row `v`. -/
theorem blk3 (c : Dev nD) (t : Fin cfg0.N) (j : Fin 32) (v : Fin 80) :
    iblk m c 3 t (ix2 j v) = m ((c.tc : Thread nD τ).loc main_arg3) (ix2 v j) := by
  obtain ⟨-, -, -, i3, -⟩ := idx t
  refine Eq.trans (b := V m c main_call0_v3 (ix2 j v)) ?_ ?_
  · unfold iblk
    blk_ext [i3]
  · rw [(entries m c).2.2.2.1]
    pointwise

/-- The block of table 4 at `(j, v)`: entry `j` of the table's row `v`. -/
theorem blk4 (c : Dev nD) (t : Fin cfg0.N) (j : Fin 32) (v : Fin 150) :
    iblk m c 4 t (ix2 j v) = m ((c.tc : Thread nD τ).loc main_arg4) (ix2 v j) := by
  obtain ⟨-, -, -, -, i4, -⟩ := idx t
  refine Eq.trans (b := V m c main_call0_v4 (ix2 j v)) ?_ ?_
  · unfold iblk
    blk_ext [i4]
  · rw [(entries m c).2.2.2.2.1]
    pointwise

/-- The block of table 5 at `(j, v)`: entry `j` of the table's row `v`. -/
theorem blk5 (c : Dev nD) (t : Fin cfg0.N) (j : Fin 16) (v : Fin 150) :
    iblk m c 5 t (ix2 j v) = m ((c.tc : Thread nD τ).loc main_arg5) (ix2 v j) := by
  obtain ⟨-, -, -, -, -, i5, -⟩ := idx t
  refine Eq.trans (b := V m c main_call0_v5 (ix2 j v)) ?_ ?_
  · unfold iblk
    blk_ext [i5]
  · rw [(entries m c).2.2.2.2.2.1]
    pointwise

/-- The block of table 6 at `(j, v)`: entry `j` of the table's row `v`. -/
theorem blk6 (c : Dev nD) (t : Fin cfg0.N) (j : Fin 8) (v : Fin 20) :
    iblk m c 6 t (ix2 j v) = m ((c.tc : Thread nD τ).loc main_arg6) (ix2 v j) := by
  obtain ⟨-, -, -, -, -, -, i6, -⟩ := idx t
  refine Eq.trans (b := V m c main_call0_v6 (ix2 j v)) ?_ ?_
  · unfold iblk
    blk_ext [i6]
  · rw [(entries m c).2.2.2.2.2.2]
    pointwise

/-- The block of the weights is the weights. -/
theorem blk7 (c : Dev nD) (t : Fin cfg0.N) (j : Fin 299) (h : Fin 384) :
    iblk m c 7 t (ix2 j h) = m ((c.tc : Thread nD τ).loc main_arg7) (ix2 j h) := by
  obtain ⟨-, -, -, -, -, -, -, i7, -⟩ := idx t
  refine Eq.trans ?_ (congrFun (V_main_arg7 m c) _)
  unfold iblk
  blk_ext [i7]

/-- A sum of weights times a column of the scratch matrix, block by block. -/
theorem scratch_sum (a0 a1 a2 a3 a4 a5 : FVec Ideal S20x384 .f32) (t6 : FVec Ideal S32x20 .f32) (w6 : FVec Ideal S32x384 .f32)
    (t7 : FVec Ideal S16x20 .f32) (w7 : FVec Ideal S16x384 .f32) (t8 : FVec Ideal S8x20 .f32) (w8 : FVec Ideal S8x384 .f32)
    (r : FVec Ideal S19x384 .f32) (x : Fin 28 → EReal) (hx : Whole x) (h : Fin 384) :
    ∑ k, weight x k * k0_pay9 a0 a1 a2 a3 a4 a5 t6 w6 t7 w7 t8 w8 r (ix2 k h)
      = a0 (ix2 (cat (x 0)) h) + (a1 (ix2 (cat (x 1)) h) + (a2 (ix2 (cat (x 2)) h) + (a3 (ix2 (cat (x 3)) h)
        + (a4 (ix2 (cat (x 4)) h) + (a5 (ix2 (cat (x 5)) h)
        + (∑ j, t6 (ix2 j (cat (x 6))) * w6 (ix2 j h) + (∑ j, t7 (ix2 j (cat (x 7))) * w7 (ix2 j h)
        + (∑ j, t8 (ix2 j (cat (x 8))) * w8 (ix2 j h) + ∑ j : Fin 19, x ⟨9 + j, by omega⟩ * r (ix2 j h))))))))) := by
  rw [sum_cut 20 179 rfl, sum_cut 20 159 rfl, sum_cut 20 139 rfl, sum_cut 20 119 rfl, sum_cut 20 99 rfl,
    sum_cut 20 79 rfl, sum_cut 20 59 rfl, sum_cut 20 39 rfl, sum_cut 20 19 rfl]
  pointwise [k0_pay9]
  refine congrArg₂ (· + ·) (sum_cat x hx 0 _ (fun v => by simp) _) ?_
  refine congrArg₂ (· + ·) (sum_cat x hx 1 _ (fun v => by simp) _) ?_
  refine congrArg₂ (· + ·) (sum_cat x hx 2 _ (fun v => by simp; omega) _) ?_
  refine congrArg₂ (· + ·) (sum_cat x hx 3 _ (fun v => by simp; omega) _) ?_
  refine congrArg₂ (· + ·) (sum_cat x hx 4 _ (fun v => by simp; omega) _) ?_
  refine congrArg₂ (· + ·) (sum_cat x hx 5 _ (fun v => by simp; omega) _) ?_
  refine congrArg₂ (· + ·) (sum_cat x hx 6 _ (fun v => by simp; omega) _) ?_
  refine congrArg₂ (· + ·) (sum_cat x hx 7 _ (fun v => by simp; omega) _) ?_
  refine congrArg₂ (· + ·) (sum_cat x hx 8 _ (fun v => by simp; omega) _) ?_
  exact sum_rest x _ (fun v => by simp; omega) _

/-- A row's weights against the scratch matrix the first point builds: the hidden row of the row's features. -/
theorem hid_eq (c : Dev nD) (t : Fin cfg0.N) (h0 : t.val % 32 = 0) (x : Fin 28 → EReal) (hx : Whole x) (h : Fin 384) :
    ∑ k, weight x k * (outsAt0 m c t.val t.isLt).2 (ix2 k h)
      = hid x (m ((c.tc : Thread nD τ).loc main_arg1)) (m ((c.tc : Thread nD τ).loc main_arg2))
          (m ((c.tc : Thread nD τ).loc main_arg3)) (m ((c.tc : Thread nD τ).loc main_arg4))
          (m ((c.tc : Thread nD τ).loc main_arg5)) (m ((c.tc : Thread nD τ).loc main_arg6))
          (m ((c.tc : Thread nD τ).loc main_arg7)) h := by
  rw [outsAt0_A m c t h0]
  frame_out
  rw [scratch_sum _ _ _ _ _ _ _ _ _ _ _ _ _ x hx h]
  unfold hid
  pointwise [k0_pay2, k0_pay3, k0_pay4, k0_pay5, k0_pay6, k0_pay7, k0_pay8]
  simp only [blk1, blk2, blk3, blk4, blk5, blk6, blk7]

end Cert.Scratch

end
-- ==== Proof.Arr.lean ====
/- What the kernel's output array holds when the region is over: at row `i` of token `a`, the normalised hidden row of
   that token's features. -/
module

public import proofs.«01_k».proof.Proof.Scratch

@[expose] public section

set_option maxRecDepth 16384

noncomputable section

open Idealize.ShloMosaic Idealize.ShloMosaic.TcCoe Idealize.SL.Sem
open Idealize.ShloMosaic.Pipeline (Dat)

namespace Cert.Arr
open Cert.KernelIdeal Cert.KernelIdeal.Gen Cert.Norm Cert.Row Cert.Feature Cert.Tile Cert.Scratch
variable (m : (ℓ : Loc nD τ sig) → Buf (Elt Ideal) ℓ)

/-- The features of token `a` of row `i`, as device `c` was given them. -/
abbrev feat (c : Dev nD) (i : Fin 16384) (a : Fin 12) : Fin 28 → EReal :=
  fun d => m ((c.tc : Thread nD τ).loc main_arg0) (ix3 i a d)

/-- The hidden row of a token, from device `c`'s tables and weights. -/
abbrev hidOf (c : Dev nD) (x : Fin 28 → EReal) : Fin 384 → EReal :=
  hid x (m ((c.tc : Thread nD τ).loc main_arg1)) (m ((c.tc : Thread nD τ).loc main_arg2))
    (m ((c.tc : Thread nD τ).loc main_arg3)) (m ((c.tc : Thread nD τ).loc main_arg4))
    (m ((c.tc : Thread nD τ).loc main_arg5)) (m ((c.tc : Thread nD τ).loc main_arg6))
    (m ((c.tc : Thread nD τ).loc main_arg7))

/-- What the output array is to hold: tokens first, rows second, as the kernel lays it out. -/
def G (c : Dev nD) : FVec Ideal S12x16384x384 .f32 :=
  fun j => normMul (hidOf m c (feat m c (j 1) (j 0))) (j 2)

/-- The output block of point `t`, at `(a, r, h)`, holds the normalised hidden row of row `512 t + r`. -/
theorem block_at (c : Dev nD) (hx : ∀ i a, Whole (feat m c i a)) (t : Fin cfg0.N) (y : S12x512x384.Idx) :
    (outsAt0 m c t.val t.isLt).1 y
      = G m c (ix3 (y 0) ⟨t.val * 512 + y 1, by have h : t.val < 32 := lt_of_lt_of_eq t.isLt N_0; have := (y 1).isLt; simp at this; omega⟩ (y 2)) := by
  have hN : t.val < 32 := lt_of_lt_of_eq t.isLt N_0
  have hb : (outsAt0 m c t.val t.isLt).1 y
      = normMul (fun h => ∑ k, weight (fun d => iblk m c 0 t (ix3 (y 0) d (y 1))) k
          * (outsAt0 m c t.val t.isLt).2 (ix2 k h)) (y 2) := by
    by_cases h0 : t.val % 32 = 0
    · exact out_A m c t h0 y
    · exact out_B m c t h0 y
  refine hb.trans ?_
  have hf : (fun d => iblk m c 0 t (ix3 (y 0) d (y 1))) = feat m c ⟨t.val * 512 + y 1, by have := (y 1).isLt; simp at this; omega⟩ (y 0) :=
    funext fun d => blk0 m c t (y 0) d (y 1)
  rw [hf, scratch_const m c ⟨0, lt_of_le_of_lt (Nat.zero_le _) t.isLt⟩ rfl t.val t rfl]
  exact congrArg (fun H => normMul H (y 2)) (funext fun h => hid_eq m c ⟨0, lt_of_le_of_lt (Nat.zero_le _) t.isLt⟩ rfl _ (hx _ _) h)

/-- The output array when the region is over. -/
theorem final (c : Dev nD) (hx : ∀ i a, Whole (feat m c i a)) : (dats m 0 c).arrAt 8 cfg0.N = G m c := by
  refine (dats m 0 c).arrAt_eq_of_covers 8 (G m c) (by decide +kernel) fun t hf y => ?_
  obtain ⟨-, -, -, -, -, -, -, -, i8⟩ := idx t
  blk_simp
  rw [after0_8]
  refine (block_at m c hx t y).trans ?_
  blk_ext [i8]

end Cert.Arr

end
-- ==== Proof.RefRun.lean ====
/- What the reference leaves: its operations, read in order, are the mathematics of the problem, named step by step (the
   look-ups, the joined row, the linear layer, the normalisation); and its arguments end unchanged. -/
module
public import proofs.«01_k».proof.Defs
public import proofs.«01_k».proof.Proof.Gen.ReferenceIdeal
public import Idealize.ShloMosaic.Adequacy
public import Idealize.ShloMosaic.Lib.Claim
public import Idealize.ShloMosaic.Lib.Quiescent
public import Idealize.ShloMosaic.Lib.StableHlo.RunRead

/-! What one run of the reference leaves: the arguments as they were, and in the result the expression `out` of the arguments. -/

@[expose] public section
set_option maxRecDepth 16384
set_option backward.isDefEq.respectTransparency.types false
noncomputable section
namespace Cert.RefRun
open Idealize.ShloMosaic Idealize.SL.Sem Idealize.ShloMosaic.StableHlo
open Cert.ReferenceIdeal Cert.ReferenceIdeal.Gen

/-- The category words: the first nine features as integers, raised to at least zero. -/
def words (x : FVec Ideal S16384x12x28 .f32) : IVec S16384x12x9 32 :=
  maxsi (broadcastInDim S16384x12x9 ![] bcast_S_S16384x12x9 (constantI S_ 32 0#32))
    (fptosi 32 (extractStridedSlice S16384x12x9 ![0, 0, 0] x slices_S16384x12x28_S16384x12x9_0_0_0))

/-- One column of the category words. -/
def col (k : Nat) (hk : S16384x12x9.Slices ![0, 0, k] S16384x12x1) (x : FVec Ideal S16384x12x28 .f32) : IVec S16384x12 32 :=
  shapeCast S16384x12 (extractStridedSlice S16384x12x1 ![0, 0, k] (words x) hk) shapeCasts_S16384x12x1_S16384x12

/-- The row number a look-up reads: negative numbers count from the end of a table of `n` rows. -/
def wrap (n : BitVec 32) (i : IVec S16384x12 32) : IVec S16384x12x1 32 :=
  broadcastInDim S16384x12x1 ![0, 1] bcast_S16384x12_S16384x12x1_0_1
    (select (cmpi .slt i (broadcastInDim S16384x12 ![] bcast_S_S16384x12 (constantI S_ 32 0#32)))
      (addi i (broadcastInDim S16384x12 ![] bcast_S_S16384x12 (constantI S_ 32 n))) i)

/-- Whether a row number lies between zero and the last row. -/
def inside (last : BitVec 32) (p : IVec S16384x12x1 32) : IVec S16384x12 1 :=
  Host.reduce IntOp.andi
    (andi (cmpi .sge p (broadcastInDim S16384x12x1 ![] bcast_S_S16384x12x1 (constantI S_ 32 0#32)))
      (cmpi .sle p (broadcastInDim S16384x12x1 ![0, 1, 2] bcast_S1x1x1_S16384x12x1_0_1_2
        (broadcastInDim S1x1x1 ![2] bcast_S1_S1x1x1_2 (constantI S1 32 last)))))
    (constantI S_ 1 1#1) reducesTo_S16384x12x1_S16384x12_d2 h_S_

/-- A look-up: the table's rows at the row numbers, and a quiet NaN where a row number is outside. -/
def take {N w : Nat} (d : GatherDims ⟨2, ![N, w]⟩ S16384x12x1 ⟨3, ![16384, 12, w]⟩)
    (hb : S16384x12.BroadcastsInDim ⟨3, ![16384, 12, w]⟩ ![0, 1]) (hn : S_.BroadcastsInDim ⟨3, ![16384, 12, w]⟩ ![])
    (n last : BitVec 32) (tab : FVec Ideal ⟨2, ![N, w]⟩ .f32) (i : IVec S16384x12 32) : FVec Ideal ⟨3, ![16384, 12, w]⟩ .f32 :=
  select (broadcastInDim ⟨3, ![16384, 12, w]⟩ ![0, 1] hb (inside last (wrap n i))) (Host.gather d tab (wrap n i))
    (broadcastInDim ⟨3, ![16384, 12, w]⟩ ![] hn (constant S_ .f32 0x7FC00000#32))

/-- The nine looked-up rows side by side. -/
def cat9 (x0 : FVec Ideal S16384x12x64 .f32) (x1 : FVec Ideal S16384x12x32 .f32) (x2 : FVec Ideal S16384x12x32 .f32) (x3 : FVec Ideal S16384x12x32 .f32) (x4 : FVec Ideal S16384x12x32 .f32) (x5 : FVec Ideal S16384x12x32 .f32) (x6 : FVec Ideal S16384x12x32 .f32) (x7 : FVec Ideal S16384x12x16 .f32) (x8 : FVec Ideal S16384x12x8 .f32) : FVec Ideal S16384x12x280 .f32 :=
  concatenate S16384x12x280 2 [⟨S16384x12x64, x0⟩, ⟨S16384x12x32, x1⟩, ⟨S16384x12x32, x2⟩, ⟨S16384x12x32, x3⟩, ⟨S16384x12x32, x4⟩, ⟨S16384x12x32, x5⟩, ⟨S16384x12x32, x6⟩, ⟨S16384x12x16, x7⟩, ⟨S16384x12x8, x8⟩] concatenates_S16384x12x64_S16384x12x32_S16384x12x32_S16384x12x32_S16384x12x32_S16384x12x32_S16384x12x32_S16384x12x16_S16384x12x8_S16384x12x280_d2

/-- The looked-up rows and the other features side by side. -/
def cat2 (x : FVec Ideal S16384x12x280 .f32) (y : FVec Ideal S16384x12x19 .f32) : FVec Ideal S16384x12x299 .f32 :=
  concatenate S16384x12x299 2 [⟨S16384x12x280, x⟩, ⟨S16384x12x19, y⟩] concatenates_S16384x12x280_S16384x12x19_S16384x12x299_d2

/-- The input of the linear layer: the nine looked-up rows and the other features side by side. -/
def joined (x : FVec Ideal S16384x12x28 .f32) (sp : FVec Ideal S200x64 .f32) (mv : FVec Ideal S400x32 .f32) (it : FVec Ideal S80x32 .f32) (ab : FVec Ideal S150x32 .f32) (ty : FVec Ideal S150x16 .f32) (st : FVec Ideal S20x8 .f32) : FVec Ideal S16384x12x299 .f32 :=
  cat2 (cat9
    (take gather_S200x64_S16384x12x1_S16384x12x64_2_0_n_n_0_2_164 bcast_S16384x12_S16384x12x64_0_1 bcast_S_S16384x12x64 200#32 199#32 sp (col 0 slices_S16384x12x9_S16384x12x1_0_0_0 x))
    (take gather_S400x32_S16384x12x1_S16384x12x32_2_0_n_n_0_2_132 bcast_S16384x12_S16384x12x32_0_1 bcast_S_S16384x12x32 400#32 399#32 mv (col 1 slices_S16384x12x9_S16384x12x1_0_0_1 x))
    (take gather_S400x32_S16384x12x1_S16384x12x32_2_0_n_n_0_2_132 bcast_S16384x12_S16384x12x32_0_1 bcast_S_S16384x12x32 400#32 399#32 mv (col 2 slices_S16384x12x9_S16384x12x1_0_0_2 x))
    (take gather_S400x32_S16384x12x1_S16384x12x32_2_0_n_n_0_2_132 bcast_S16384x12_S16384x12x32_0_1 bcast_S_S16384x12x32 400#32 399#32 mv (col 3 slices_S16384x12x9_S16384x12x1_0_0_3 x))
    (take gather_S400x32_S16384x12x1_S16384x12x32_2_0_n_n_0_2_132 bcast_S16384x12_S16384x12x32_0_1 bcast_S_S16384x12x32 400#32 399#32 mv (col 4 slices_S16384x12x9_S16384x12x1_0_0_4 x))
    (take gather_S80x32_S16384x12x1_S16384x12x32_2_0_n_n_0_2_132 bcast_S16384x12_S16384x12x32_0_1 bcast_S_S16384x12x32 80#32 79#32 it (col 5 slices_S16384x12x9_S16384x12x1_0_0_5 x))
    (take gather_S150x32_S16384x12x1_S16384x12x32_2_0_n_n_0_2_132 bcast_S16384x12_S16384x12x32_0_1 bcast_S_S16384x12x32 150#32 149#32 ab (col 6 slices_S16384x12x9_S16384x12x1_0_0_6 x))
    (take gather_S150x16_S16384x12x1_S16384x12x16_2_0_n_n_0_2_116 bcast_S16384x12_S16384x12x16_0_1 bcast_S_S16384x12x16 150#32 149#32 ty (col 7 slices_S16384x12x9_S16384x12x1_0_0_7 x))
    (take gather_S20x8_S16384x12x1_S16384x12x8_2_0_n_n_0_2_18 bcast_S16384x12_S16384x12x8_0_1 bcast_S_S16384x12x8 20#32 19#32 st (col 8 slices_S16384x12x9_S16384x12x1_0_0_8 x)))
    (extractStridedSlice S16384x12x19 ![0, 0, 9] x slices_S16384x12x28_S16384x12x19_0_0_9)

/-- A row of 384 numbers repeated over all members. -/
def rep (b : FVec Ideal S384 .f32) : FVec Ideal S16384x12x384 .f32 :=
  broadcastInDim S16384x12x384 ![0, 1, 2] bcast_S1x1x384_S16384x12x384_0_1_2 (broadcastInDim S1x1x384 ![2] bcast_S384_S1x1x384_2 b)

/-- A member's number repeated over its 384 places. -/
def along (v : FVec Ideal S16384x12x1 .f32) : FVec Ideal S16384x12x384 .f32 :=
  broadcastInDim S16384x12x384 ![0, 1, 2] bcast_S16384x12x1_S16384x12x384_0_1_2 v

/-- The linear layer. -/
def linear (y : FVec Ideal S16384x12x299 .f32) (W : FVec Ideal S299x384 .f32) (b : FVec Ideal S384 .f32) : FVec Ideal S16384x12x384 .f32 :=
  addf (Host.dotGeneral dot_S16384x12x299_S299x384_S16384x12x384_2_0_01_1_n_n none y W) (rep b)

/-- The mean over the 384 places of every member. -/
def avg (H : FVec Ideal S16384x12x384 .f32) : FVec Ideal S16384x12x1 .f32 :=
  Host.divf (broadcastInDim S16384x12x1 ![0, 1] bcast_S16384x12_S16384x12x1_0_1
      (Host.reduceAdd H (constant S_ .f32 0x00000000#32) reducesTo_S16384x12x384_S16384x12_d2 h_S_))
    (broadcastInDim S16384x12x1 ![] bcast_S_S16384x12x1 (constant S_ .f32 0x43C00000#32))

/-- What is left of `H` after its mean is taken off. -/
def centred (H : FVec Ideal S16384x12x384 .f32) : FVec Ideal S16384x12x384 .f32 := subf H (along (avg H))

/-- The layer normalisation. -/
def normed (H : FVec Ideal S16384x12x384 .f32) (g be : FVec Ideal S384 .f32) : FVec Ideal S16384x12x384 .f32 :=
  addf (mulf (Host.divf (centred H)
      (along (Host.sqrt (addf (avg (mulf (centred H) (centred H)))
        (broadcastInDim S16384x12x1 ![] bcast_S_S16384x12x1 (constant S_ .f32 0x3727C5AC#32)))))) (rep g)) (rep be)

/-- The reference's result as an expression of its arguments. -/
def out (x : FVec Ideal S16384x12x28 .f32) (sp : FVec Ideal S200x64 .f32) (mv : FVec Ideal S400x32 .f32) (it : FVec Ideal S80x32 .f32) (ab : FVec Ideal S150x32 .f32) (ty : FVec Ideal S150x16 .f32) (st : FVec Ideal S20x8 .f32) (W : FVec Ideal S299x384 .f32) (b g be : FVec Ideal S384 .f32) :
    FVec Ideal S16384x12x384 .f32 :=
  normed (linear (joined x sp mv it ab ty st) W b) g be

/-- The expression at the arguments in a memory. -/
def outOf (m : (ℓ : Loc nD τ sig) → Buf (Elt Ideal) ℓ) (c : Dev nD) : FVec Ideal S16384x12x384 .f32 :=
  out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))

/-- What the operation joining nine pieces leaves. -/
theorem cat9_result (V : Valuation τ sig (Elt Ideal)) (hxs hy) :
    (nary (τ := τ) (Val := Elt Ideal) ![main_v5, main_v8, main_v11, main_v14, main_v17, main_v20, main_v23, main_v26, main_v29] main_v30 (fun u => (concatenate S16384x12x280 2 [⟨S16384x12x64, (u 0 : (⟨S16384x12x64, .f32⟩ : BufTy).Contents (Elt Ideal))⟩, ⟨S16384x12x32, (u 1 : (⟨S16384x12x32, .f32⟩ : BufTy).Contents (Elt Ideal))⟩, ⟨S16384x12x32, (u 2 : (⟨S16384x12x32, .f32⟩ : BufTy).Contents (Elt Ideal))⟩, ⟨S16384x12x32, (u 3 : (⟨S16384x12x32, .f32⟩ : BufTy).Contents (Elt Ideal))⟩, ⟨S16384x12x32, (u 4 : (⟨S16384x12x32, .f32⟩ : BufTy).Contents (Elt Ideal))⟩, ⟨S16384x12x32, (u 5 : (⟨S16384x12x32, .f32⟩ : BufTy).Contents (Elt Ideal))⟩, ⟨S16384x12x32, (u 6 : (⟨S16384x12x32, .f32⟩ : BufTy).Contents (Elt Ideal))⟩, ⟨S16384x12x16, (u 7 : (⟨S16384x12x16, .f32⟩ : BufTy).Contents (Elt Ideal))⟩, ⟨S16384x12x8, (u 8 : (⟨S16384x12x8, .f32⟩ : BufTy).Contents (Elt Ideal))⟩] concatenates_S16384x12x64_S16384x12x32_S16384x12x32_S16384x12x32_S16384x12x32_S16384x12x32_S16384x12x32_S16384x12x16_S16384x12x8_S16384x12x280_d2 : (⟨S16384x12x280, .f32⟩ : BufTy).Contents (Elt Ideal))) hxs hy).result V (no_index (Proc.devRef .tc main_v30))
      = cat9 (V (Proc.devRef .tc main_v5)) (V (Proc.devRef .tc main_v8)) (V (Proc.devRef .tc main_v11)) (V (Proc.devRef .tc main_v14)) (V (Proc.devRef .tc main_v17)) (V (Proc.devRef .tc main_v20)) (V (Proc.devRef .tc main_v23)) (V (Proc.devRef .tc main_v26)) (V (Proc.devRef .tc main_v29)) :=
  nary_result _ _ _ hxs hy V

/-- What the operation joining two pieces leaves. -/
theorem cat2_result (V : Valuation τ sig (Elt Ideal)) (ha hb hy) :
    (binary (τ := τ) (Val := Elt Ideal) main_v30 main_v31 main_v32 ((fun a b => concatenate S16384x12x299 2 [⟨S16384x12x280, a⟩, ⟨S16384x12x19, b⟩] concatenates_S16384x12x280_S16384x12x19_S16384x12x299_d2) : (⟨S16384x12x280, .f32⟩ : BufTy).Contents (Elt Ideal) → (⟨S16384x12x19, .f32⟩ : BufTy).Contents (Elt Ideal) → (⟨S16384x12x299, .f32⟩ : BufTy).Contents (Elt Ideal)) ha hb hy).result V (no_index (Proc.devRef .tc main_v32))
      = cat2 (V (Proc.devRef .tc main_v30)) (V (Proc.devRef .tc main_v31)) :=
  binary_result _ _ _ _ ha hb hy V

set_option maxHeartbeats 3200000 in
set_option maxRecDepth 100000 in
/-- The reference runs, leaves `out` of the arguments in the result, and leaves the arguments as they were. -/
theorem run_out (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v60) = outOf m c ∧
        r.2.mem ((c.tc : Thread nD τ).loc main_arg0) = m ((c.tc : Thread nD τ).loc main_arg0) ∧
        r.2.mem ((c.tc : Thread nD τ).loc main_arg1) = m ((c.tc : Thread nD τ).loc main_arg1) ∧
        r.2.mem ((c.tc : Thread nD τ).loc main_arg2) = m ((c.tc : Thread nD τ).loc main_arg2) ∧
        r.2.mem ((c.tc : Thread nD τ).loc main_arg3) = m ((c.tc : Thread nD τ).loc main_arg3) ∧
        r.2.mem ((c.tc : Thread nD τ).loc main_arg4) = m ((c.tc : Thread nD τ).loc main_arg4) ∧
        r.2.mem ((c.tc : Thread nD τ).loc main_arg5) = m ((c.tc : Thread nD τ).loc main_arg5) ∧
        r.2.mem ((c.tc : Thread nD τ).loc main_arg6) = m ((c.tc : Thread nD τ).loc main_arg6) ∧
        r.2.mem ((c.tc : Thread nD τ).loc main_arg7) = m ((c.tc : Thread nD τ).loc main_arg7) ∧
        r.2.mem ((c.tc : Thread nD τ).loc main_arg8) = m ((c.tc : Thread nD τ).loc main_arg8) ∧
        r.2.mem ((c.tc : Thread nD τ).loc main_arg9) = m ((c.tc : Thread nD τ).loc main_arg9) ∧
        r.2.mem ((c.tc : Thread nD τ).loc main_arg10) = m ((c.tc : Thread nD τ).loc main_arg10) := by
  refine θ_run_mono (run_hlo _ _ (by hlo_seq) (by decide) (by decide) (by simp)
      (by intro _ h; (repeat (cases h with | head => rfl | tail _ h => ?_)); exact nomatch h) m g) fun r h c => ⟨?_, ?_⟩
  · refine (h c main_v60).trans ?_
    clear h
    unfold outOf
    change _ = out (launchContents m c (Proc.devRef .tc main_arg0)) (launchContents m c (Proc.devRef .tc main_arg1)) (launchContents m c (Proc.devRef .tc main_arg2)) (launchContents m c (Proc.devRef .tc main_arg3)) (launchContents m c (Proc.devRef .tc main_arg4)) (launchContents m c (Proc.devRef .tc main_arg5)) (launchContents m c (Proc.devRef .tc main_arg6)) (launchContents m c (Proc.devRef .tc main_arg7)) (launchContents m c (Proc.devRef .tc main_arg8)) (launchContents m c (Proc.devRef .tc main_arg9)) (launchContents m c (Proc.devRef .tc main_arg10))
    generalize launchContents m c = V
    simp (disch := decide) only [readAfter, readUpto, ↓cat2_result, nullary_result', unary_result', binary_result', ternary_result', reshape_result', ↓cat9_result]
    simp only [TRef.toBuf, TRef.ofBuf, cast_cast, cast_eq, id_eq]
    delta out normed centred avg along rep linear joined take inside wrap col words
    rfl
  · and_intros
    all_goals
      refine (h c _).trans ?_
      simp (disch := decide) only [readAfter]

/-- The reference runs, leaves the arguments as they were, and ends with every semaphore at zero. -/
theorem quiescent : Cert.quiescent_ReferenceIdeal := fun m g _ =>
  θ_run_mono (run_out m g) fun r h => ⟨fun c => (h c).2, sem_eq_zero_of_no_sems rfl r.2⟩

end Cert.RefRun
end
-- ==== Proof.Take.lean ====
/- What one look-up of the reference reads: where every category word is a row of the table, that row. -/
module

public import proofs.«01_k».proof.Proof.RefRun
public import Idealize.ShloMosaic.Lib.Pointwise
public import Idealize.ShloMosaic.Lib.ReduceAll
public import Idealize.ShloMosaic.Lib.WordCmp

@[expose] public section

set_option maxRecDepth 16384

noncomputable section

open Idealize.ShloMosaic

namespace Cert.Take
open Cert.ReferenceIdeal Cert.ReferenceIdeal.Gen Cert.RefRun

/-- The dimension numbers of a look-up of rows: row numbers laid out as `[p, q, 1]`, whole rows of width `w` read. -/
def rowsDims (N p q w : ℕ) (wf : GatherDims.WF ⟨2, ![N, w]⟩ ⟨3, ![p, q, 1]⟩ ⟨3, ![p, q, w]⟩ [2] [0] [] [0] [] 2 ![1, w]) :
    GatherDims ⟨2, ![N, w]⟩ ⟨3, ![p, q, 1]⟩ ⟨3, ![p, q, w]⟩ where
  offsetDims := [2]
  collapsedSliceDims := [0]
  operandBatchingDims := []
  startIndicesBatchingDims := []
  startIndexMap := [0]
  indexVectorDim := 2
  sliceSizes := ![1, w]
  wf := wf

/-- Where the row number at `(i, a)` is `v < N`, entry `(i, a, y)` of the look-up is the table's entry `(v, y)`. -/
theorem gather_rows {α : Type} {N p q w : ℕ}
    (wf : GatherDims.WF ⟨2, ![N, w]⟩ ⟨3, ![p, q, 1]⟩ ⟨3, ![p, q, w]⟩ [2] [0] [] [0] [] 2 ![1, w])
    (tab : (⟨2, ![N, w]⟩ : Shape).Idx → α)
    (pos : IVec ⟨3, ![p, q, 1]⟩ 32) (i : Fin p) (a : Fin q) (y : Fin w) (v : Fin N)
    (hv : (pos (ix3 i a (0 : Fin 1))).toInt = v) :
    Host.gather (rowsDims N p q w wf) tab pos (ix3 i a y) = tab (ix2 v y) := by
  unfold Host.gather
  have hlen := v.isLt
  have hb : ∀ b, (rowsDims N p q w wf).batchCoord (ix3 i a y) b = 0 := fun b =>
    (rowsDims N p q w wf).batchCoord_eq_zero _ _ List.not_mem_nil
  refine congrArg tab (funext fun b => Fin.ext ?_)
  match b with
  | ⟨0, _⟩ =>
    show (rowsDims N p q w wf).start (ix3 i a y) pos 0 + (rowsDims N p q w wf).batchCoord (ix3 i a y) 0
      + (rowsDims N p q w wf).offCoord (ix3 i a y) 0 = v.val
    rw [hb, GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N p q w wf).startIndexMap from List.mem_singleton.mpr rfl)]
    have hsi : (rowsDims N p q w wf).siIdx (ix3 i a y) ⟨List.idxOf (0 : Fin 2) (rowsDims N p q w wf).startIndexMap,
        List.idxOf_lt_length_iff.2 (List.mem_singleton.mpr rfl)⟩ = ix3 i a (0 : Fin 1) := by
      funext b
      match b with
      | ⟨0, _⟩ => rfl
      | ⟨1, _⟩ => rfl
      | ⟨2, _⟩ => rfl
    rw [hsi, hv]
    show min ((v.val : ℤ)).toNat (N - 1) = v.val
    omega
  | ⟨1, _⟩ =>
    show (rowsDims N p q w wf).start (ix3 i a y) pos 1 + (rowsDims N p q w wf).batchCoord (ix3 i a y) 1
      + (rowsDims N p q w wf).offCoord (ix3 i a y) 1 = y.val
    rw [hb]
    unfold GatherDims.start
    rw [dif_neg (show (1 : Fin 2) ∉ (rowsDims N p q w wf).startIndexMap from fun h => absurd (List.mem_singleton.mp h) (show ¬ ((1 : Fin 2) = 0) by decide))]
    simp only [Nat.zero_add, Nat.add_zero]
    rfl

/-- A category word at a member is the larger of zero and the feature as an integer. -/
theorem col_at (k : Fin 9) (hk : S16384x12x9.Slices ![0, 0, (k : ℕ)] S16384x12x1) (x : FVec Ideal S16384x12x28 .f32)
    (i : Fin 16384) (a : Fin 12) :
    col k hk x (ix2 i a) = IntOp.maxsi 0#32 (Ideal.fptosi 32 (x (ix3 i a ⟨k, by omega⟩))) := by
  pointwise [col, words]
  rfl

/-- A word that is a number below `2 ^ 31` reads as that number. -/
theorem small (v : ℕ) (h : v < 2 ^ 31) : (BitVec.ofNat 32 v).toInt = v := by
  rw [BitVec.toInt_eq_toNat_of_lt (by rw [BitVec.toNat_ofNat]; omega), BitVec.toNat_ofNat]
  omega

/-- A category word that is not negative is left as it is. -/
theorem wrap_at (n : BitVec 32) (u : IVec S16384x12 32) (i : Fin 16384) (a : Fin 12) (v : ℕ) (hv : v < 2 ^ 31)
    (hu : u (ix2 i a) = BitVec.ofNat 32 v) (z : Fin 1) : wrap n u (ix3 i a z) = BitVec.ofNat 32 v := by
  pointwise [wrap]
  have h : IntOp.cmpi .slt (BitVec.ofNat 32 v) 0#32 = 0#1 := by
    unfold IntOp.cmpi
    simp only [BitVec.slt, small v hv]
    rw [decide_eq_false (by simp)]
    rfl
  rw [hu, h]
  rfl

/-- Where every category word is a row of a table whose last row is `last`, every row number is inside. -/
theorem inside_all (n last : BitVec 32) (u : IVec S16384x12 32) (L : ℕ) (hL : L < 2 ^ 31) (hl : last = BitVec.ofNat 32 L)
    (hu : ∀ i a, ∃ v, v ≤ L ∧ u (ix2 i a) = BitVec.ofNat 32 v) (j : S16384x12.Idx) : inside last (wrap n u) j = 1#1 := by
  unfold inside
  refine Host.reduce_andi_one _ _ _ _ _ rfl fun q => ?_
  obtain ⟨v, hvL, hv⟩ := hu (q 0) (q 1)
  have hq : wrap n u q = BitVec.ofNat 32 v := by
    rw [show q = ix3 (q 0) (q 1) (q 2) from funext fun b => by fin_cases b <;> rfl]
    exact wrap_at n u (q 0) (q 1) v (by omega) hv (q 2)
  show IntOp.andi (IntOp.cmpi .sge (wrap n u q) 0#32) (IntOp.cmpi .sle (wrap n u q) last) = 1#1
  rw [hq, hl]
  unfold IntOp.cmpi IntOp.andi
  simp only [BitVec.sle, small v (by omega), small L hL]
  simp [hvL]

/-- A look-up where every category word is a row of the table reads that row. -/
theorem take_at {N w : ℕ}
    (wf : GatherDims.WF ⟨2, ![N, w]⟩ ⟨3, ![16384, 12, 1]⟩ ⟨3, ![16384, 12, w]⟩ [2] [0] [] [0] [] 2 ![1, w])
    (hb : S16384x12.BroadcastsInDim ⟨3, ![16384, 12, w]⟩ ![0, 1]) (hn : S_.BroadcastsInDim ⟨3, ![16384, 12, w]⟩ ![])
    (n last : BitVec 32) (hN : N < 2 ^ 31) (hl : last = BitVec.ofNat 32 (N - 1)) (tab : FVec Ideal ⟨2, ![N, w]⟩ .f32) (u : IVec S16384x12 32)
    (v : Fin 16384 → Fin 12 → Fin N) (hu : ∀ i a, u (ix2 i a) = BitVec.ofNat 32 (v i a))
    (i : Fin 16384) (a : Fin 12) (y : Fin w) :
    take (rowsDims N 16384 12 w wf) hb hn n last tab u (ix3 i a y) = tab (ix2 (v i a) y) := by
  have h1 : ∀ j, inside last (wrap n u) j = 1#1 :=
    inside_all n last u (N - 1) (by omega) hl fun i a => ⟨v i a, by have := (v i a).isLt; omega, hu i a⟩
  have hlt := (v i a).isLt
  unfold take
  refine Eq.trans ?_ (gather_rows wf tab (wrap n u) i a y (v i a) ?_)
  · show Scalar.select (inside last (wrap n u) _) _ _ = _
    rw [h1]
    rfl
  · rw [wrap_at n u i a (v i a) (by omega) (hu i a) 0]
    exact small _ (by omega)

end Cert.Take
end
-- ==== Proof.Layer.lean ====
/- The reference's linear layer and normalisation, read at one member. -/
module

public import proofs.«01_k».proof.Proof.Take
public import proofs.«01_k».proof.Proof.Norm

@[expose] public section

set_option maxRecDepth 16384

noncomputable section

open Idealize.ShloMosaic

namespace Cert.Layer
open Cert.ReferenceIdeal Cert.ReferenceIdeal.Gen Cert.RefRun Cert.Norm

/-- A weighted sum over the 299 joined places is the ten weighted sums over the pieces. -/
theorem sum_joined (x0 : FVec Ideal S16384x12x64 .f32) (x1 x2 x3 x4 x5 x6 : FVec Ideal S16384x12x32 .f32)
    (x7 : FVec Ideal S16384x12x16 .f32) (x8 : FVec Ideal S16384x12x8 .f32) (z : FVec Ideal S16384x12x19 .f32)
    (f : Fin 299 → EReal) (i : Fin 16384) (a : Fin 12) :
    ∑ k, cat2 (cat9 x0 x1 x2 x3 x4 x5 x6 x7 x8) z (ix3 i a k) * f k
      = ∑ j : Fin 64, x0 (ix3 i a j) * f ⟨j, by omega⟩
      + (∑ j : Fin 32, x1 (ix3 i a j) * f ⟨64 + j, by omega⟩
      + (∑ j : Fin 32, x2 (ix3 i a j) * f ⟨96 + j, by omega⟩
      + (∑ j : Fin 32, x3 (ix3 i a j) * f ⟨128 + j, by omega⟩
      + (∑ j : Fin 32, x4 (ix3 i a j) * f ⟨160 + j, by omega⟩
      + (∑ j : Fin 32, x5 (ix3 i a j) * f ⟨192 + j, by omega⟩
      + (∑ j : Fin 32, x6 (ix3 i a j) * f ⟨224 + j, by omega⟩
      + (∑ j : Fin 16, x7 (ix3 i a j) * f ⟨256 + j, by omega⟩
      + (∑ j : Fin 8, x8 (ix3 i a j) * f ⟨272 + j, by omega⟩
      + ∑ j : Fin 19, z (ix3 i a j) * f ⟨280 + j, by omega⟩)))))))) := by
  rw [sum_cut 64 235 rfl, sum_cut 32 203 rfl, sum_cut 32 171 rfl, sum_cut 32 139 rfl, sum_cut 32 107 rfl, sum_cut 32 75 rfl, sum_cut 32 43 rfl, sum_cut 16 27 rfl, sum_cut 8 19 rfl]
  iterate 9 (refine congrArg₂ (· + ·) ?_ ?_; rotate_left)
  all_goals
    refine Finset.sum_congr rfl fun j _ => congrArg₂ (· * ·) ?_ (congrArg f (Fin.ext (by first | rfl | (dsimp only; omega))))
    have hj := j.isLt
    pointwise [cat2, cat9]
    first
      | exact dif_pos (by omega)
      | exact (dif_neg (by omega)).trans (congrArg z (congrArg (ix3 i a) (Fin.ext (by dsimp only; omega))))

/-- The linear layer at a place is the weighted sum of its inputs, plus the bias there. -/
theorem linear_at (y : FVec Ideal S16384x12x299 .f32) (W : FVec Ideal S299x384 .f32) (b : FVec Ideal S384 .f32)
    (i : Fin 16384) (a : Fin 12) (h : Fin 384) :
    linear y W b (ix3 i a h) = ∑ k, y (ix3 i a k) * W (ix2 k h) + b (ix1 h) := by
  pointwise [linear, rep]

/-- The layer normalisation at a place, with the scale and the shift there. -/
theorem normed_at (H : FVec Ideal S16384x12x384 .f32) (g be : FVec Ideal S384 .f32) (i : Fin 16384) (a : Fin 12)
    (h : Fin 384) :
    normed H g be (ix3 i a h) = normDiv (fun k => H (ix3 i a k)) h * g (ix1 h) + be (ix1 h) := by
  pointwise [normed, centred, avg, along, rep]
  rfl

end Cert.Layer

end
-- ==== Proof.Value.lean ====
/- What the reference's result holds at one place: the hidden row of the member, normalised. -/
module

public import proofs.«01_k».proof.Proof.Layer
public import proofs.«01_k».proof.Proof.Feature

@[expose] public section

set_option maxRecDepth 16384

noncomputable section

open Idealize.ShloMosaic

namespace Cert.Value
open Cert.ReferenceIdeal Cert.ReferenceIdeal.Gen Cert.RefRun Cert.Norm Cert.Feature

/-- Every one of the first nine features, as an integer, is its category number. -/
def Words (x : FVec Ideal S16384x12x28 .f32) : Prop :=
  ∀ i a (f : Fin 9), Ideal.fptosi 32 (x (ix3 i a ⟨f, by omega⟩)) = BitVec.ofNat 32 (cat (x (ix3 i a ⟨f, by omega⟩)))

/-- Raising a category number to at least zero leaves it. -/
theorem raise (v : Fin 20) : IntOp.maxsi 0#32 (BitVec.ofNat 32 v) = BitVec.ofNat 32 v := by
  revert v; decide

/-- One looked-up piece of the linear layer: the row of the member's category number, weighted. -/
theorem piece {N w : ℕ}
    (wf : GatherDims.WF ⟨2, ![N, w]⟩ ⟨3, ![16384, 12, 1]⟩ ⟨3, ![16384, 12, w]⟩ [2] [0] [] [0] [] 2 ![1, w])
    (hb : S16384x12.BroadcastsInDim ⟨3, ![16384, 12, w]⟩ ![0, 1]) (hn : S_.BroadcastsInDim ⟨3, ![16384, 12, w]⟩ ![])
    (n last : BitVec 32) (hN : N < 2 ^ 31) (h20 : 20 ≤ N) (hl : last = BitVec.ofNat 32 (N - 1))
    (tab : FVec Ideal ⟨2, ![N, w]⟩ .f32) (x : FVec Ideal S16384x12x28 .f32) (hx : Words x)
    (k : Fin 9) (hk : S16384x12x9.Slices ![0, 0, (k : ℕ)] S16384x12x1)
    (i : Fin 16384) (a : Fin 12) (f : Fin w → EReal) :
    ∑ j, take (Take.rowsDims N 16384 12 w wf) hb hn n last tab (col k hk x) (ix3 i a j) * f j
      = ∑ j, tab (ix2 ⟨cat (x (ix3 i a ⟨k, by omega⟩)), by omega⟩ j) * f j :=
  Finset.sum_congr rfl fun j _ => congrArg (· * f j)
    (Take.take_at wf hb hn n last hN hl tab (col k hk x) (fun i a => ⟨cat (x (ix3 i a ⟨k, by omega⟩)), by omega⟩)
      (fun i a => by rw [Take.col_at, hx i a k]; exact raise _) i a j)

/-- The linear layer of the reference, with no bias, holds the hidden row of the member. -/
theorem hidden_at (x : FVec Ideal S16384x12x28 .f32) (sp : FVec Ideal S200x64 .f32) (mv : FVec Ideal S400x32 .f32)
    (it : FVec Ideal S80x32 .f32) (ab : FVec Ideal S150x32 .f32) (ty : FVec Ideal S150x16 .f32)
    (st : FVec Ideal S20x8 .f32) (W : FVec Ideal S299x384 .f32) (b : FVec Ideal S384 .f32)
    (hx : Words x) (hb : ∀ k, b (ix1 k) = 0) (i : Fin 16384) (a : Fin 12) (h : Fin 384) :
    linear (joined x sp mv it ab ty st) W b (ix3 i a h) = hid (fun d => x (ix3 i a d)) sp mv it ab ty st W h := by
  rw [Layer.linear_at, hb, add_zero]
  unfold joined
  refine (Layer.sum_joined _ _ _ _ _ _ _ _ _ _ (fun k => W (ix2 k h)) i a).trans ?_
  refine congrArg₂ (· + ·) (piece _ _ _ _ _ (by norm_num) (by norm_num) rfl sp x hx 0 _ i a _) ?_
  refine congrArg₂ (· + ·) (piece _ _ _ _ _ (by norm_num) (by norm_num) rfl mv x hx 1 _ i a _) ?_
  refine congrArg₂ (· + ·) (piece _ _ _ _ _ (by norm_num) (by norm_num) rfl mv x hx 2 _ i a _) ?_
  refine congrArg₂ (· + ·) (piece _ _ _ _ _ (by norm_num) (by norm_num) rfl mv x hx 3 _ i a _) ?_
  refine congrArg₂ (· + ·) (piece _ _ _ _ _ (by norm_num) (by norm_num) rfl mv x hx 4 _ i a _) ?_
  refine congrArg₂ (· + ·) (piece _ _ _ _ _ (by norm_num) (by norm_num) rfl it x hx 5 _ i a _) ?_
  refine congrArg₂ (· + ·) (piece _ _ _ _ _ (by norm_num) (by norm_num) rfl ab x hx 6 _ i a _) ?_
  refine congrArg₂ (· + ·) (piece _ _ _ _ _ (by norm_num) (by norm_num) rfl ty x hx 7 _ i a _) ?_
  refine congrArg₂ (· + ·) (piece _ _ _ _ _ (by norm_num) (by norm_num) rfl st x hx 8 _ i a _) ?_
  refine Finset.sum_congr rfl fun j _ => congrArg (· * _) ?_
  pointwise []

/-- The reference's result at a place, when the bias and the shift are zero and the scale is one. -/
theorem out_at (x : FVec Ideal S16384x12x28 .f32) (sp : FVec Ideal S200x64 .f32) (mv : FVec Ideal S400x32 .f32)
    (it : FVec Ideal S80x32 .f32) (ab : FVec Ideal S150x32 .f32) (ty : FVec Ideal S150x16 .f32)
    (st : FVec Ideal S20x8 .f32) (W : FVec Ideal S299x384 .f32) (b g be : FVec Ideal S384 .f32)
    (hx : Words x) (hb : ∀ k, b (ix1 k) = 0) (hg : ∀ k, g (ix1 k) = 1) (hbe : ∀ k, be (ix1 k) = 0)
    (i : Fin 16384) (a : Fin 12) (h : Fin 384) :
    out x sp mv it ab ty st W b g be (ix3 i a h) = normDiv (hid (fun d => x (ix3 i a d)) sp mv it ab ty st W) h := by
  unfold out
  rw [Layer.normed_at, hg, hbe, mul_one, add_zero]
  exact congrArg (fun H => normDiv H h) (funext fun k => hidden_at x sp mv it ab ty st W b hx hb i a k)

end Cert.Value

end
-- ==== Proof.Range.lean ====
/- What the precondition says of the arguments: the first nine features are category numbers, the linear bias and the
   normalisation's shift are zero, and its scale is one. -/
module

public import proofs.«01_k».proof.Proof.Feature
public import proofs.«01_k».proof.Proof.Gen.Pre_in_range
public import Idealize.ShloMosaic.Lib.Pointwise
public import Idealize.ShloMosaic.Lib.ReduceAll
public import Idealize.ShloMosaic.Lib.IdealHost
public import Idealize.ShloMosaic.Lib.Affine

@[expose] public section

set_option maxRecDepth 16384

noncomputable section

open Idealize.ShloMosaic

namespace Cert.Range
open Cert.Pre_in_range Cert.Feature

/-- An array without axes has one index. -/
instance : Subsingleton S_.Idx := ⟨fun p q => funext fun b => b.elim0⟩

/-- Two extended reals that compare equal are equal. -/
theorem eq_of_oeq (u v : EReal) (h : BitVec.ofBool (decide (u = v)) = 1#1) : u = v := by
  by_contra hne
  rw [decide_eq_false hne] at h
  exact absurd h (by decide)

/-- A feature whose integer lies between zero and nineteen and equals the feature is its category number. -/
theorem category (u : EReal) (h0 : IntOp.cmpi .sge (Ideal.fptosi 32 u) 0#32 = 1#1)
    (h1 : IntOp.cmpi .slt (Ideal.fptosi 32 u) 20#32 = 1#1) (h2 : (((Ideal.fptosi 32 u).toInt : ℝ) : EReal) = u) :
    Ideal.fptosi 32 u = BitVec.ofNat 32 (cat u) ∧ u = (((cat u : ℕ) : ℝ) : EReal) := by
  have hcat : (cat u : ℕ) = (Ideal.fptosi 32 u).toNat % 20 := rfl
  generalize Ideal.fptosi 32 u = q at *
  have g0 : 0 ≤ q.toInt := by
    by_contra hn
    unfold IntOp.cmpi at h0
    simp only [BitVec.sle] at h0
    rw [decide_eq_false (by simpa using hn)] at h0
    exact absurd h0 (by decide)
  have g1 : q.toInt < 20 := by
    by_contra hn
    unfold IntOp.cmpi at h1
    simp only [BitVec.slt] at h1
    rw [decide_eq_false (by simpa using hn)] at h1
    exact absurd h1 (by decide)
  have hq : q.toInt = q.toNat := by
    rw [BitVec.toInt_eq_toNat_cond] at g0 ⊢
    split_ifs at g0 ⊢ with hlt
    · rfl
    · have := q.isLt; omega
  have hm : (cat u : ℕ) = q.toNat := by rw [hcat]; exact Nat.mod_eq_of_lt (by omega)
  refine ⟨?_, ?_⟩
  · rw [hm]
    exact BitVec.eq_of_toNat_eq (by rw [BitVec.toNat_ofNat, Nat.mod_eq_of_lt q.isLt])
  · rw [hm, ← h2, hq, Int.cast_natCast]

/-- What the precondition says: the features' integers are their category numbers, and so are the features; the bias
    and the shift are zero, the scale is one. -/
theorem holds (x : FVec Ideal S16384x12x28 .f32) (sp : FVec Ideal S200x64 .f32) (mv : FVec Ideal S400x32 .f32)
    (it : FVec Ideal S80x32 .f32) (ab : FVec Ideal S150x32 .f32) (ty : FVec Ideal S150x16 .f32)
    (st : FVec Ideal S20x8 .f32) (W : FVec Ideal S299x384 .f32) (b g be : FVec Ideal S384 .f32)
    (h : Cert.Pre_in_range.fn (F := Ideal) x sp mv it ab ty st W b g be = fun _ => 1#1) :
    (∀ i a (f : Fin 9), Ideal.fptosi 32 (x (ix3 i a ⟨f, by omega⟩)) = BitVec.ofNat 32 (cat (x (ix3 i a ⟨f, by omega⟩)))
        ∧ x (ix3 i a ⟨f, by omega⟩) = (((cat (x (ix3 i a ⟨f, by omega⟩)) : ℕ) : ℝ) : EReal))
      ∧ (∀ k, b (ix1 k) = 0) ∧ (∀ k, g (ix1 k) = 1) ∧ ∀ k, be (ix1 k) = 0 := by
  have e := congrFun h (fun b => b.elim0)
  simp only [fn, fn_part1, andi, IntOp.andi_eq_one] at e
  obtain ⟨⟨⟨e0, e1⟩, e2⟩, e3⟩ := e
  refine ⟨fun i a f => ?_, fun k => ?_, fun k => ?_, fun k => ?_⟩
  · have q := Host.reduce_andi_all _ _ _ _ _ e0 (ix3 i a f)
    simp only [andi, IntOp.andi_eq_one] at q
    obtain ⟨⟨q0, q1⟩, q2⟩ := q
    have hs : extractStridedSlice S16384x12x9 ![0, 0, 0] x Gen.slices_S16384x12x28_S16384x12x9_0_0_0 (ix3 i a f)
        = x (ix3 i a ⟨f, by omega⟩) := by pointwise []
    rw [← hs]
    exact category _ q0 q1 (eq_of_oeq _ _ q2)
  · exact (eq_of_oeq _ _ (Host.reduce_andi_all _ _ _ _ _ e1 (ix1 k))).trans Ideal.ofBits_zero_f32
  · exact (eq_of_oeq _ _ (Host.reduce_andi_all _ _ _ _ _ e2 (ix1 k))).trans Ideal.ofBits_one_f32
  · exact (eq_of_oeq _ _ (Host.reduce_andi_all _ _ _ _ _ e3 (ix1 k))).trans Ideal.ofBits_zero_f32

end Cert.Range

end
-- ==== Proof.Tail.lean ====
/- What the kernel's program leaves as its result, and that it is what the reference computes from the same arguments. -/
module

public import proofs.«01_k».proof.Proof.Arr
public import proofs.«01_k».proof.Proof.Value
public import proofs.«01_k».proof.Proof.Range
public import Idealize.ShloMosaic.Lib.Claim

@[expose] public section

set_option maxRecDepth 16384

noncomputable section

open Idealize.ShloMosaic Idealize.ShloMosaic.TcCoe Idealize.ShloMosaic.StableHlo Idealize.SL.Sem

namespace Cert.Tail
open Cert.KernelIdeal Cert.KernelIdeal.Gen Cert.Norm Cert.Feature Cert.Arr
variable (m : (ℓ : Loc nD τ sig) → Buf (Elt Ideal) ℓ)

/-- The result of the whole program is the region's output array with its first two axes exchanged. -/
theorem result (c : Dev nD) :
    (Pipeline.afterTail₀ cfgs (dats m) 0 (V0 m) [hostOps1] c main_v0 : FVec Ideal S16384x12x384 .f32)
      = transpose S16384x12x384 [1, 0, 2] ((dats m 0 c).arrAt 8 cfg0.N : FVec Ideal S12x16384x384 .f32)
          transposes_S12x16384x384_S16384x12x384_1_0_2 := by
  have h := Pipeline.withArrays_arr spec0 winFacts0.arr_inj c (V0 m c) (fun w => (dats m 0 c).arrAt w cfg0.N) 8
  refine Eq.trans ?_ (congrArg (fun A : FVec Ideal S12x16384x384 .f32 => transpose S16384x12x384 [1, 0, 2] A
    transposes_S12x16384x384_S16384x12x384_1_0_2) h)
  unfold Pipeline.afterTail₀
  after_results
  rfl

/-- The result at a place: the normalised hidden row of the member. -/
theorem result_at (c : Dev nD) (hx : ∀ i a, Whole (feat m c i a)) (i : Fin 16384) (a : Fin 12) (h : Fin 384) :
    (Pipeline.afterTail₀ cfgs (dats m) 0 (V0 m) [hostOps1] c main_v0 : FVec Ideal S16384x12x384 .f32) (ix3 i a h)
      = normMul (hidOf m c (feat m c i a)) h := by
  rw [result, final m c hx]
  generalize hG : G m c = A
  have e : transpose S16384x12x384 [1, 0, 2] A transposes_S12x16384x384_S16384x12x384_1_0_2 (ix3 i a h) = A (ix3 a i h) := by
    pointwise []
  rw [e, ← hG]
  rfl

/-- Under the precondition the reference's mathematics, at the kernel's arguments, is the kernel's result. -/
theorem agree (c : Dev nD)
    (hp : Cert.Pre_in_range.fn (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) = fun _ => 1#1) :
    RefRun.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      = (Pipeline.afterTail₀ cfgs (dats m) 0 (V0 m) [hostOps1] c main_v0 : FVec Ideal S16384x12x384 .f32) := by
  obtain ⟨hx, hb, hg, hbe⟩ := Range.holds _ _ _ _ _ _ _ _ _ _ _ hp
  funext j
  obtain ⟨i, a, h, rfl⟩ : ∃ (i : Fin 16384) (a : Fin 12) (h : Fin 384), j = ix3 i a h := ⟨j 0, j 1, j 2, funext fun k => by
    fin_cases k <;> rfl⟩
  rw [result_at m c (fun i a f => (hx i a f).2), normMul_eq_normDiv]
  exact Value.out_at _ _ _ _ _ _ _ _ _ _ _ (fun i a f => (hx i a f).1) hb hg hbe i a h

end Cert.Tail

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_in_range
public import proofs.«01_k».proof.Proof.Tail
public import Idealize.ShloMosaic.Adequacy
public import Idealize.ShloMosaic.Init

@[expose] public section

noncomputable section

namespace Cert.Proof

open Idealize.ShloMosaic Idealize.SL.Sem Cert.Kernel

/-- The kernel's program ends with its arguments unchanged and its counters at zero, the reference's likewise, with the
    precondition or without; and from memories agreeing on the arguments, under the precondition, both end with equal
    results. -/
theorem claim : Cert.Claim := ⟨Cert.Kernel.Gen.facts, Cert.KernelIdeal.Gen.facts, Cert.ReferenceIdeal.Gen.facts, Cert.Pre_in_range.Gen.facts, by
  refine ⟨fun m g _ => Cert.Kernel.Gen.frame m g, fun m g _ => Cert.KernelIdeal.Gen.frame m g,
    fun m g _ => Cert.KernelIdeal.Gen.frame m g, Cert.RefRun.quiescent,
    fun m g _ => Cert.RefRun.quiescent m g trivial, trivial, ?_⟩
  pair_intro
  · run_from Cert.KernelIdeal.Gen.run_main m g
    all_goals first
      | exact Cert.KernelIdeal.Gen.W_main_arg0 m _ c
      | exact Cert.KernelIdeal.Gen.W_main_arg1 m _ c
      | exact Cert.KernelIdeal.Gen.W_main_arg2 m _ c
      | exact Cert.KernelIdeal.Gen.W_main_arg3 m _ c
      | exact Cert.KernelIdeal.Gen.W_main_arg4 m _ c
      | exact Cert.KernelIdeal.Gen.W_main_arg5 m _ c
      | exact Cert.KernelIdeal.Gen.W_main_arg6 m _ c
      | exact Cert.KernelIdeal.Gen.W_main_arg8 m _ c
      | exact Cert.KernelIdeal.Gen.W_main_arg9 m _ c
      | exact Cert.KernelIdeal.Gen.W_main_arg10 m _ c
  · refine θ_run_mono (Cert.RefRun.run_out m' g') fun r h c => ⟨(h c).1.trans ?_, (h c).2⟩
    have e := Cert.Tail.agree m c (hpre c)
    obtain ⟨a0, a1, a2, a3, a4, a5, a6, a7, a8, a9, a10⟩ := hagree c
    rw [← e]
    unfold Cert.RefRun.outOf
    rw [a0, a1, a2, a3, a4, a5, a6, a7, a8, a9, a10]⟩

end Cert.Proof

end
